-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gain_is_finite [hPre_gain_is_finite : Cert.Pre_gain_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gain_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gain_is_finite [hPre_gain_is_finite : Cert.Pre_gain_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gain_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_gain_is_finite [hKernelIdeal : Cert.KernelIdeal.Facts] [hPre_gain_is_finite : Cert.Pre_gain_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gain_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_gain_is_finite [hReferenceIdeal : Cert.ReferenceIdeal.Facts] [hPre_gain_is_finite : Cert.Pre_gain_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gain_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_gain_is_finite [hKernelIdeal : Cert.KernelIdeal.Facts] [hReferenceIdeal : Cert.ReferenceIdeal.Facts] [hPre_gain_is_finite : Cert.Pre_gain_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gain_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_gain_is_finite : Cert.Pre_gain_is_finite.Facts),
    quiescent_Kernel (hKernel := hKernel)
    ∧ quiescent_KernelIdeal (hKernelIdeal := hKernelIdeal)
    ∧ quiescent_KernelIdeal_pre_gain_is_finite (hKernelIdeal := hKernelIdeal) (hPre_gain_is_finite := hPre_gain_is_finite)
    ∧ quiescent_ReferenceIdeal (hReferenceIdeal := hReferenceIdeal)
    ∧ quiescent_ReferenceIdeal_pre_gain_is_finite (hReferenceIdeal := hReferenceIdeal) (hPre_gain_is_finite := hPre_gain_is_finite)
    ∧ preserves_Kernel_KernelIdeal
    ∧ algebraic_KernelIdeal_ReferenceIdeal_pre_gain_is_finite (hKernelIdeal := hKernelIdeal) (hReferenceIdeal := hReferenceIdeal) (hPre_gain_is_finite := hPre_gain_is_finite)
-- ==== Pre_gain_is_finite.lean ====
abbrev S4096x7168 : Shape := ⟨2, ![4096, 7168]⟩
abbrev S4096x2048 : Shape := ⟨2, ![4096, 2048]⟩
abbrev S4096x16 : Shape := ⟨2, ![4096, 16]⟩
abbrev S2048x7168 : Shape := ⟨2, ![2048, 7168]⟩
abbrev S16x56 : Shape := ⟨2, ![16, 56]⟩
abbrev S7168 : Shape := ⟨1, ![7168]⟩
abbrev S7168x2112 : Shape := ⟨2, ![7168, 2112]⟩
abbrev S56x17 : Shape := ⟨2, ![56, 17]⟩
abbrev S_ : Shape := ⟨0, ![]⟩

class Facts : Prop where
  bcast_S_S7168 : S_.BroadcastsInDim S7168 (![] : Fin 0 → Fin S7168.rank)

variable [Facts]

def fn {F : FTy → Type} [FloatOps F] (main_arg0 : FVec F S4096x7168 .bf16) (main_arg1 : FVec F S4096x7168 .f32) (main_arg2 : FVec F S4096x2048 .fp8e4m3) (main_arg3 : FVec F S4096x16 .f32) (main_arg4 : FVec F S2048x7168 .fp8e4m3) (main_arg5 : FVec F S16x56 .f32) (main_arg6 : FVec F S7168 .f32) (main_arg7 : FVec F S7168x2112 .fp8e4m3) (main_arg8 : FVec F S56x17 .f32) : IVec S7168 1 :=
  let main_v0 : FVec F S7168 .f32 := Host.absf main_arg6
  let main_cst : FVec F S_ .f32 := constant S_ .f32 0x7F7FFFFF#32
  let main_v1 : FVec F S7168 .f32 := broadcastInDim S7168 ![] bcast_S_S7168 main_cst
  let main_v2 : IVec S7168 1 := cmpf .ole main_v0 main_v1
  main_v2
-- ==== Kernel.lean ====
abbrev S4096x7168 : Shape := ⟨2, ![4096, 7168]⟩
abbrev S4096x2048 : Shape := ⟨2, ![4096, 2048]⟩
abbrev S4096x16 : Shape := ⟨2, ![4096, 16]⟩
abbrev S2048x7168 : Shape := ⟨2, ![2048, 7168]⟩
abbrev S16x56 : Shape := ⟨2, ![16, 56]⟩
abbrev S7168 : Shape := ⟨1, ![7168]⟩
abbrev S7168x2112 : Shape := ⟨2, ![7168, 2112]⟩
abbrev S56x17 : Shape := ⟨2, ![56, 17]⟩
abbrev S1x7168 : Shape := ⟨2, ![1, 7168]⟩
abbrev S4096x2112 : Shape := ⟨2, ![4096, 2112]⟩
abbrev S4096x56 : Shape := ⟨2, ![4096, 56]⟩
abbrev S128x7168 : Shape := ⟨2, ![128, 7168]⟩
abbrev S128x2048 : Shape := ⟨2, ![128, 2048]⟩
abbrev S128x16 : Shape := ⟨2, ![128, 16]⟩
abbrev S128x2112 : Shape := ⟨2, ![128, 2112]⟩
abbrev S128x56 : Shape := ⟨2, ![128, 56]⟩
abbrev S128x128 : Shape := ⟨2, ![128, 128]⟩
abbrev S128x1 : Shape := ⟨2, ![128, 1]⟩
abbrev S128x256 : Shape := ⟨2, ![128, 256]⟩
abbrev S1x1 : Shape := ⟨2, ![1, 1]⟩
abbrev S1x128 : Shape := ⟨2, ![1, 128]⟩
abbrev S1x256 : Shape := ⟨2, ![1, 256]⟩
abbrev S2048x256 : Shape := ⟨2, ![2048, 256]⟩
abbrev S128 : Shape := ⟨1, ![128]⟩
abbrev S1x255 : Shape := ⟨2, ![1, 255]⟩
abbrev S128x255 : Shape := ⟨2, ![128, 255]⟩
abbrev S7168x256 : Shape := ⟨2, ![7168, 256]⟩
abbrev S128x64 : Shape := ⟨2, ![128, 64]⟩
abbrev S1x64 : Shape := ⟨2, ![1, 64]⟩
abbrev S7168x64 : Shape := ⟨2, ![7168, 64]⟩

abbrev nBuf : Space → Nat
  | .hbm => 14
  | .vmem => 24
  | .smem => 0
  | _ => 0

abbrev bufTy : (tb : Table) → Fin (tcTables nBuf tb) → BufTy
  | .hbm, ⟨0, _⟩ => ⟨S4096x7168, .bf16⟩
  | .hbm, ⟨1, _⟩ => ⟨S4096x7168, .f32⟩
  | .hbm, ⟨2, _⟩ => ⟨S4096x2048, .fp8e4m3⟩
  | .hbm, ⟨3, _⟩ => ⟨S4096x16, .f32⟩
  | .hbm, ⟨4, _⟩ => ⟨S2048x7168, .fp8e4m3⟩
  | .hbm, ⟨5, _⟩ => ⟨S16x56, .f32⟩
  | .hbm, ⟨6, _⟩ => ⟨S7168, .f32⟩
  | .hbm, ⟨7, _⟩ => ⟨S7168x2112, .fp8e4m3⟩
  | .hbm, ⟨8, _⟩ => ⟨S56x17, .f32⟩
  | .hbm, ⟨9, _⟩ => ⟨S1x7168, .f32⟩
  | .hbm, ⟨10, _⟩ => ⟨S4096x7168, .bf16⟩
  | .hbm, ⟨11, _⟩ => ⟨S4096x2112, .bf16⟩
  | .hbm, ⟨12, _⟩ => ⟨S4096x7168, .fp8e4m3⟩
  | .hbm, ⟨13, _⟩ => ⟨S4096x56, .f32⟩
  | .local _ .vmem, ⟨0, _⟩ => ⟨S128x7168, .bf16⟩
  | .local _ .vmem, ⟨1, _⟩ => ⟨S128x7168, .bf16⟩
  | .local _ .vmem, ⟨2, _⟩ => ⟨S128x7168, .f32⟩
  | .local _ .vmem, ⟨3, _⟩ => ⟨S128x7168, .f32⟩
  | .local _ .vmem, ⟨4, _⟩ => ⟨S128x2048, .fp8e4m3⟩
  | .local _ .vmem, ⟨5, _⟩ => ⟨S128x2048, .fp8e4m3⟩
  | .local _ .vmem, ⟨6, _⟩ => ⟨S128x16, .f32⟩
  | .local _ .vmem, ⟨7, _⟩ => ⟨S128x16, .f32⟩
  | .local _ .vmem, ⟨8, _⟩ => ⟨S2048x7168, .fp8e4m3⟩
  | .local _ .vmem, ⟨9, _⟩ => ⟨S16x56, .f32⟩
  | .local _ .vmem, ⟨10, _⟩ => ⟨S1x7168, .f32⟩
  | .local _ .vmem, ⟨11, _⟩ => ⟨S7168x2112, .fp8e4m3⟩
  | .local _ .vmem, ⟨12, _⟩ => ⟨S56x17, .f32⟩
  | .local _ .vmem, ⟨13, _⟩ => ⟨S128x7168, .bf16⟩
  | .local _ .vmem, ⟨14, _⟩ => ⟨S128x7168, .bf16⟩
  | .local _ .vmem, ⟨15, _⟩ => ⟨S128x2112, .bf16⟩
  | .local _ .vmem, ⟨16, _⟩ => ⟨S128x2112, .bf16⟩
  | .local _ .vmem, ⟨17, _⟩ => ⟨S128x7168, .fp8e4m3⟩
  | .local _ .vmem, ⟨18, _⟩ => ⟨S128x7168, .fp8e4m3⟩
  | .local _ .vmem, ⟨19, _⟩ => ⟨S128x56, .f32⟩
  | .local _ .vmem, ⟨20, _⟩ => ⟨S128x56, .f32⟩
  | .local _ .vmem, ⟨21, _⟩ => ⟨S128x7168, .f32⟩
  | .local _ .vmem, ⟨22, _⟩ => ⟨S128x2048, .bf16⟩
  | .local _ .vmem, ⟨23, _⟩ => ⟨S128x7168, .bf16⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x7168 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S7168x2112 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S56x17 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x7168 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2112 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x7168 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x56 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S4096x7168 : Shape := ⟨2, ![4096, 7168]⟩
abbrev S4096x2048 : Shape := ⟨2, ![4096, 2048]⟩
abbrev S4096x16 : Shape := ⟨2, ![4096, 16]⟩
abbrev S2048x7168 : Shape := ⟨2, ![2048, 7168]⟩
abbrev S16x56 : Shape := ⟨2, ![16, 56]⟩
abbrev S7168 : Shape := ⟨1, ![7168]⟩
abbrev S7168x2112 : Shape := ⟨2, ![7168, 2112]⟩
abbrev S56x17 : Shape := ⟨2, ![56, 17]⟩
abbrev S1x7168 : Shape := ⟨2, ![1, 7168]⟩
abbrev S4096x2112 : Shape := ⟨2, ![4096, 2112]⟩
abbrev S4096x56 : Shape := ⟨2, ![4096, 56]⟩
abbrev S4096x16x1 : Shape := ⟨3, ![4096, 16, 1]⟩
abbrev S4096x16x128 : Shape := ⟨3, ![4096, 16, 128]⟩
abbrev S16x56x1 : Shape := ⟨3, ![16, 56, 1]⟩
abbrev S16x56x128 : Shape := ⟨3, ![16, 56, 128]⟩
abbrev S16x7168 : Shape := ⟨2, ![16, 7168]⟩
abbrev S16x128x7168 : Shape := ⟨3, ![16, 128, 7168]⟩
abbrev S16x1x7168 : Shape := ⟨3, ![16, 1, 7168]⟩
abbrev S4096 : Shape := ⟨1, ![4096]⟩
abbrev S4096x1 : Shape := ⟨2, ![4096, 1]⟩
abbrev S4096x56x128 : Shape := ⟨3, ![4096, 56, 128]⟩
abbrev S1x1x254 : Shape := ⟨3, ![1, 1, 254]⟩
abbrev S4096x56x1 : Shape := ⟨3, ![4096, 56, 1]⟩
abbrev S4096x56x254 : Shape := ⟨3, ![4096, 56, 254]⟩
abbrev S56x17x1 : Shape := ⟨3, ![56, 17, 1]⟩
abbrev S56x17x128 : Shape := ⟨3, ![56, 17, 128]⟩
abbrev S56x2176 : Shape := ⟨2, ![56, 2176]⟩
abbrev S56x2112 : Shape := ⟨2, ![56, 2112]⟩
abbrev S56x128x2112 : Shape := ⟨3, ![56, 128, 2112]⟩
abbrev S56x1x2112 : Shape := ⟨3, ![56, 1, 2112]⟩

abbrev nBuf : Space → Nat
  | .hbm => 14
  | .vmem => 13
  | .smem => 0
  | _ => 0

abbrev bufTy : (tb : Table) → Fin (tcTables nBuf tb) → BufTy
  | .hbm, ⟨0, _⟩ => ⟨S4096x7168, .bf16⟩
  | .hbm, ⟨1, _⟩ => ⟨S4096x7168, .f32⟩
  | .hbm, ⟨2, _⟩ => ⟨S4096x2048, .fp8e4m3⟩
  | .hbm, ⟨3, _⟩ => ⟨S4096x16, .f32⟩
  | .hbm, ⟨4, _⟩ => ⟨S2048x7168, .fp8e4m3⟩
  | .hbm, ⟨5, _⟩ => ⟨S16x56, .f32⟩
  | .hbm, ⟨6, _⟩ => ⟨S7168, .f32⟩
  | .hbm, ⟨7, _⟩ => ⟨S7168x2112, .fp8e4m3⟩
  | .hbm, ⟨8, _⟩ => ⟨S56x17, .f32⟩
  | .hbm, ⟨9, _⟩ => ⟨S1x7168, .f32⟩
  | .hbm, ⟨10, _⟩ => ⟨S4096x7168, .bf16⟩
  | .hbm, ⟨11, _⟩ => ⟨S4096x2112, .bf16⟩
  | .hbm, ⟨12, _⟩ => ⟨S4096x7168, .fp8e4m3⟩
  | .hbm, ⟨13, _⟩ => ⟨S4096x56, .f32⟩
  | .local _ .vmem, ⟨0, _⟩ => ⟨S4096x7168, .bf16⟩
  | .local _ .vmem, ⟨1, _⟩ => ⟨S4096x7168, .f32⟩
  | .local _ .vmem, ⟨2, _⟩ => ⟨S4096x2048, .fp8e4m3⟩
  | .local _ .vmem, ⟨3, _⟩ => ⟨S4096x16, .f32⟩
  | .local _ .vmem, ⟨4, _⟩ => ⟨S2048x7168, .fp8e4m3⟩
  | .local _ .vmem, ⟨5, _⟩ => ⟨S16x56, .f32⟩
  | .local _ .vmem, ⟨6, _⟩ => ⟨S1x7168, .f32⟩
  | .local _ .vmem, ⟨7, _⟩ => ⟨S7168x2112, .fp8e4m3⟩
  | .local _ .vmem, ⟨8, _⟩ => ⟨S56x17, .f32⟩
  | .local _ .vmem, ⟨9, _⟩ => ⟨S4096x7168, .bf16⟩
  | .local _ .vmem, ⟨10, _⟩ => ⟨S4096x2112, .bf16⟩
  | .local _ .vmem, ⟨11, _⟩ => ⟨S4096x7168, .fp8e4m3⟩
  | .local _ .vmem, ⟨12, _⟩ => ⟨S4096x56, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S4096x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7168x2112 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S56x17 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x7168 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x2112 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4096x7168 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4096x56 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Scale.lean ====
/-
The power of two that scales a run of 128 values.

The kernel counts the powers of two that `a` is not below and builds the next one from its bits; the
reference takes the least power of two above `a`. Below `2 ^ 126` both are `scaleOf a`, and the
kernel's reciprocal power is the inverse of it.
-/
module

public import Idealize.ShloMosaic.PureOps.Ideal
public import Idealize.ShloMosaic.Lib.IndicatorCount

@[expose] public section

noncomputable section

namespace Cert.Proof

open Idealize.ShloMosaic

/-- `2 ^ (i - 127)`: the f32 value whose exponent field is `i` and whose fraction is zero. -/
def p2 (i : ℕ) : EReal := (((2 : ℝ) ^ ((i : ℤ) - 127) : ℝ) : EReal)

theorem p2_pos (i : ℕ) : 0 < p2 i := by
  unfold p2; exact_mod_cast zpow_pos (by norm_num : (0 : ℝ) < 2) _

theorem p2_strictMono : StrictMono p2 := by
  intro i j h
  unfold p2
  exact EReal.coe_lt_coe_iff.2 (zpow_lt_zpow_right₀ (by norm_num : (1 : ℝ) < 2) (sub_lt_sub_right (Int.ofNat_lt.2 h) _))

theorem p2_mono : Monotone p2 := p2_strictMono.monotone

/-- How many of the 254 normal powers of two are at most `a`. -/
def count (a : EReal) : ℕ := (Finset.univ.filter fun k : Fin 254 => p2 (k + 1) ≤ a).card

/-- The powers at most `a` are the first `count a` of them. -/
theorem le_iff_lt_count (a : EReal) (k : Fin 254) : p2 (k + 1) ≤ a ↔ (k : ℕ) < count a := by
  classical
  set S := Finset.univ.filter fun k : Fin 254 => p2 (k + 1) ≤ a with hS
  have down : ∀ i j : Fin 254, i ≤ j → j ∈ S → i ∈ S := by
    intro i j hij hj
    simp only [hS, Finset.mem_filter, Finset.mem_univ, true_and] at hj ⊢
    exact le_trans (p2_mono (by have : (i : ℕ) ≤ j := hij; omega)) hj
  have key : ∀ k : Fin 254, k ∈ S ↔ (k : ℕ) < S.card := by
    intro k
    constructor
    · intro hk
      have : Finset.Iic k ⊆ S := fun i hi => down i k (Finset.mem_Iic.1 hi) hk
      have := Finset.card_le_card this
      rw [Fin.card_Iic] at this
      omega
    · intro hk
      by_contra hn
      have : S ⊆ Finset.Iio k := fun i hi => Finset.mem_Iio.2 (lt_of_not_ge fun h => hn (down k i h hi))
      have := Finset.card_le_card this
      rw [Fin.card_Iio] at this
      omega
  have := key k
  simpa [hS, count] using this

/-- The scale of a run whose greatest magnitude over 448 is `a`: one at zero, and the least power of two above `a`. -/
def scaleOf (a : EReal) : EReal := if a = 0 then 1 else p2 (count a + 1)

theorem scaleOf_pos (a : EReal) : 0 < scaleOf a := by
  unfold scaleOf; split_ifs
  · exact zero_lt_one
  · exact p2_pos _

/-- Below `2 ^ 126` at most 252 powers count. -/
theorem count_le {a : EReal} (h : a < p2 253) : count a ≤ 252 := by
  by_contra hc
  have := (le_iff_lt_count a ⟨252, by norm_num⟩).2 (by simp only; omega)
  exact absurd h (not_lt.2 this)

theorem count_le_254 (a : EReal) : count a ≤ 254 := by
  have := Finset.card_filter_le (Finset.univ : Finset (Fin 254)) (fun k : Fin 254 => p2 (k + 1) ≤ a)
  simpa [count] using this

/-- The least power above `a`, as a fold of minima over the 254 powers. -/
theorem fold_min_eq {a : EReal} (h : a < p2 253) :
    Finset.univ.fold min (⊤ : EReal) (fun k : Fin 254 => if a < p2 (k + 1) then p2 (k + 1) else ⊤) = p2 (count a + 1) := by
  have hc := count_le h
  apply le_antisymm
  · refine (Finset.fold_min_le _).2 (Or.inr ⟨⟨count a, by omega⟩, Finset.mem_univ _, ?_⟩)
    have : ¬ p2 (count a + 1) ≤ a := fun h' =>
      lt_irrefl _ ((le_iff_lt_count a ⟨count a, by omega⟩).1 h')
    simp [lt_of_not_ge this]
  · refine (Finset.le_fold_min _).2 ⟨le_top, fun k _ => ?_⟩
    split_ifs with hk
    · have : ¬ (k : ℕ) < count a := fun h' => absurd ((le_iff_lt_count a k).2 h') (not_le.2 hk)
      exact p2_mono (by omega)
    · exact le_top

/-- The three fields of a word that holds an exponent field alone. -/
theorem field_parts : ∀ i : Fin 255, ((BitVec.ofNat 32 i <<< 23).extractLsb' 23 8).toNat = i
    ∧ ((BitVec.ofNat 32 i <<< 23).extractLsb' 0 23).toNat = 0
    ∧ ((BitVec.ofNat 32 i <<< 23).extractLsb' (8 + 23) 1 == 1#1) = false := by decide +kernel

/-- The f32 value of a word that holds an exponent field alone. -/
theorem ofBits_field (i : ℕ) (h1 : 1 ≤ i) (h2 : i ≤ 254) :
    Ideal.ofBits .f32 (BitVec.ofNat 32 i <<< 23) = p2 i := by
  obtain ⟨e1, e2, e3⟩ := field_parts ⟨i, by omega⟩
  generalize hb : (BitVec.ofNat 32 i <<< 23 : BitVec 32) = b at *
  show Ideal.ieee 8 23 b = p2 i
  unfold Ideal.ieee
  simp only [e1, e2, e3]
  rw [if_neg (by omega), if_neg (by omega)]
  unfold p2
  congr 1
  have : ((i : ℤ) - 127) = 23 + ((i : ℤ) - (2 ^ (8 - 1) - 1) - (23 : ℕ)) := by norm_num
  rw [this, zpow_add₀ (by norm_num)]
  norm_num

theorem div_of_ne {y s : EReal} (h : s ≠ 0) : Ideal.div y s = y * s⁻¹ := if_neg h

theorem p2_inv {i j : ℕ} (h : i + j = 254) : (p2 i)⁻¹ = p2 j := by
  unfold p2
  rw [← EReal.coe_inv, ← zpow_neg]
  congr 2
  omega

/-- Division by the scale is multiplication by the reciprocal power. -/
theorem div_scaleOf {a y : EReal} (h : a < p2 253) :
    Ideal.div y (scaleOf a) = y * (if a = 0 then 1 else p2 (253 - count a)) := by
  have hc := count_le h
  rw [div_of_ne (scaleOf_pos a).ne']
  unfold scaleOf
  split_ifs
  · simp
  · rw [p2_inv (j := 253 - count a) (by omega)]

end Cert.Proof
-- ==== Proof.Spec.lean ====
/-
What both programs compute, row by row, over the extended reals.

A row of the results depends on one row of the activations and on the weights.
-/
module

public import Idealize.ShloMosaic.Lib.Pointwise
public import proofs.«01_k».proof.Proof.Scale

@[expose] public section

noncomputable section

namespace Cert.Proof

open Idealize.ShloMosaic
open scoped BigOperators

/-- A matrix of extended reals. -/
abbrev Mat (m n : ℕ) := (⟨2, ![m, n]⟩ : Shape).Idx → EReal

/-- One row of the activations: `x`, `routed`, and the hidden codes with their scales. -/
structure Row where
  x : Fin 7168 → EReal
  routed : Fin 7168 → EReal
  h : Fin 2048 → EReal
  hs : Fin 16 → EReal

/-- The weights: codes and scales of both products, and the gain of the norm. -/
structure Weights where
  w2 : Mat 2048 7168
  s2 : Mat 16 56
  gain : Fin 7168 → EReal
  wq : Mat 7168 2112
  sq : Mat 56 17

/-- Row `i` of whole arrays. -/
def rowOf {m : ℕ} (x routed : Mat m 7168) (h : Mat m 2048) (hs : Mat m 16) (i : Fin m) : Row :=
  ⟨fun j => x (ix2 i j), fun j => routed (ix2 i j), fun k => h (ix2 i k), fun k => hs (ix2 i k)⟩

/-- The weights, the gain given as a matrix of one row. -/
def weightsOf (w2 : Mat 2048 7168) (s2 : Mat 16 56) (gain : Mat 1 7168) (wq : Mat 7168 2112) (sq : Mat 56 17) : Weights :=
  ⟨w2, s2, fun j => gain (ix2 0 j), wq, sq⟩

variable (R : Row) (W : Weights)

/-- A dequantised hidden value. -/
def hid (k : Fin 2048) : EReal := R.h k * R.hs ⟨k / 128, by omega⟩

/-- A dequantised weight of the first product. -/
def w2At (k : Fin 2048) (j : Fin 7168) : EReal := W.w2 (ix2 k j) * W.s2 (ix2 ⟨k / 128, by omega⟩ ⟨j / 128, by omega⟩)

/-- A dequantised weight of the second product. -/
def wqAt (k : Fin 7168) (n : Fin 2112) : EReal := W.wq (ix2 k n) * W.sq (ix2 ⟨k / 128, by omega⟩ ⟨n / 128, by omega⟩)

/-- The residual sum. -/
def x1 (j : Fin 7168) : EReal := R.x j + (∑ k : Fin 2048, hid R k * w2At W k j) + R.routed j

/-- The root mean square with its epsilon. -/
def den : EReal :=
  Ideal.sqrt (Ideal.div (∑ j : Fin 7168, x1 R W j * x1 R W j) (Ideal.ofBits .f32 0x45E00000#32) + Ideal.ofBits .f32 0x358637BD#32)

/-- The normalised value. -/
def norm (j : Fin 7168) : EReal := Ideal.div (x1 R W j) (den R W) * W.gain j

/-- The greatest magnitude of a run, over 448. -/
def amax (r : Fin 56) : EReal :=
  Finset.univ.fold max ⊥ (fun l : Fin 128 => max (norm R W ⟨128 * r + l, by omega⟩) (-norm R W ⟨128 * r + l, by omega⟩))
    * Ideal.ofBits .f32 0x3B124925#32

/-- The scale of a run. -/
def scale (r : Fin 56) : EReal := scaleOf (amax R W r)

/-- The code of a value. -/
def code (j : Fin 7168) : EReal :=
  min (Ideal.ofBits .f32 0x43E00000#32)
    (max (Ideal.ofBits .f32 0xC3E00000#32) (Ideal.div (norm R W j) (scale R W ⟨j / 128, by omega⟩)))

/-- The dequantised code. -/
def act (j : Fin 7168) : EReal := code R W j * scale R W ⟨j / 128, by omega⟩

/-- The second product. -/
def qkv (n : Fin 2112) : EReal := ∑ j : Fin 7168, act R W j * wqAt W j n

end Cert.Proof
-- ==== Proof.Block.lean ====
/-
What one block of the kernel's vector operations computes, at an index.

The kernel's body repeats a few groups of operations over many column tiles.
Each group is stated here once, over any operands.
-/
module

public import proofs.«01_k».proof.Proof.Spec
public import proofs.«01_k».proof.Proof.Gen.KernelIdeal.Skeleton

@[expose] public section

set_option maxRecDepth 16384

noncomputable section

namespace Cert.Proof.Block

open Idealize.ShloMosaic
open Cert.KernelIdeal Cert.KernelIdeal.Gen
open scoped BigOperators

/-! ## The dequantised weights -/

/-- One scale, broadcast over 128 columns. -/
def col {a b : ℕ} (s : FVec Ideal ⟨2, ![a, b]⟩ .f32) (k c : ℕ) (h : (⟨2, ![a, b]⟩ : Shape).Slices ![k, c] S1x1) :
    FVec Ideal S1x128 .bf16 :=
  truncf .bf16 (broadcastTo S1x128 (shapeCast S1x1 (extractStridedSlice S1x1 ![k, c] s h) shapeCasts_S1x1_S1x1)
    broadcasts_S1x1_S1x128) bitsLt_bf16_f32

theorem col_apply {a b : ℕ} (s : FVec Ideal ⟨2, ![a, b]⟩ .f32) (k c : ℕ) (h : (⟨2, ![a, b]⟩ : Shape).Slices ![k, c] S1x1)
    (k' : Fin a) (c' : Fin b) (hk : k' = k) (hc : c' = c) (l : Fin 128) :
    col s k c h (ix2 0 l) = s (ix2 k' c') := by
  subst hk hc
  pointwise [col]
  congr 1
  funext b
  match b with
  | 0 => exact Fin.ext (Nat.add_zero _)
  | 1 => exact Fin.ext (Nat.add_zero _)

/-- A block of 128 rows and 256 columns, its halves scaled by two scales. -/
def scaled (w : FVec Ideal S128x256 .fp8e4m3) (u v : FVec Ideal S1x128 .bf16) : FVec Ideal S128x256 .bf16 :=
  mulf (extf .bf16 w bitsLt_fp8e4m3_bf16)
    (broadcastTo S128x256 (concatenate S1x256 1 [⟨S1x128, u⟩, ⟨S1x128, v⟩] concatenates_S1x128_S1x128_S1x256_d1)
      broadcasts_S1x256_S128x256)

theorem scaled_apply (w : FVec Ideal S128x256 .fp8e4m3) (u v : FVec Ideal S1x128 .bf16) (i : Fin 128) (l : Fin 256) :
    scaled w u v (ix2 i l) = w (ix2 i l) *
      (if h : (l : ℕ) < 128 then u (ix2 0 ⟨l, h⟩) else v (ix2 0 ⟨l - 128, by omega⟩)) := by
  pointwise [scaled]

/-- A block whose halves are scaled by neighbouring scales of a row. -/
theorem scaled_col_apply {a b : ℕ} (w : FVec Ideal S128x256 .fp8e4m3) (s : FVec Ideal ⟨2, ![a, b]⟩ .f32) (k c d : ℕ)
    (h : (⟨2, ![a, b]⟩ : Shape).Slices ![k, c] S1x1) (h' : (⟨2, ![a, b]⟩ : Shape).Slices ![k, d] S1x1) (k' : Fin a) (c' : Fin b)
    (hk : k' = k) (i : Fin 128) (l : Fin 256) (hd : d = c + 1) (hc : (c' : ℕ) = c + l / 128) :
    scaled w (col s k c h) (col s k d h') (ix2 i l) = w (ix2 i l) * s (ix2 k' c') := by
  rw [scaled_apply]
  split
  · rw [col_apply s k c h k' c' hk (by omega)]
  · rw [col_apply s k d h' k' c' hk (by omega)]

theorem stack16_fits (f : Fin 16 → FVec Ideal S128x256 .bf16) :
    Shape.Concatenates ((List.ofFn fun n : Fin 16 => (⟨S128x256, f n⟩ : (s : Shape) × (s.Idx → Ideal .bf16))).map (·.1)) S2048x256 0 := by
  rw [List.map_ofFn]
  exact (by decide : Shape.Concatenates (List.ofFn fun _ : Fin 16 => S128x256) S2048x256 0)

/-- Sixteen blocks below one another. -/
def stack16 (f : Fin 16 → FVec Ideal S128x256 .bf16) : FVec Ideal S2048x256 .bf16 :=
  concatenate S2048x256 0 (List.ofFn fun n : Fin 16 => ⟨S128x256, f n⟩) (stack16_fits f)

theorem stack16_apply (f : Fin 16 → FVec Ideal S128x256 .bf16) (k : Fin 2048) (l : Fin 256) :
    stack16 f (ix2 k l) = f ⟨k / 128, by omega⟩ (ix2 ⟨k % 128, by omega⟩ l) := by
  refine concatenate_ofFn_apply (t := S2048x256) (s₁ := S128x256) 0 f (stack16_fits f) rfl 128 rfl (ix2 k l) ⟨k / 128, by omega⟩ rfl
    (ix2 ⟨k % 128, by omega⟩ l) rfl fun b hb => ?_
  match b with
  | 0 => exact absurd rfl hb
  | 1 => rfl

theorem stack56_fits (f : Fin 56 → FVec Ideal S128x256 .bf16) :
    Shape.Concatenates ((List.ofFn fun n : Fin 56 => (⟨S128x256, f n⟩ : (s : Shape) × (s.Idx → Ideal .bf16))).map (·.1)) S7168x256 0 := by
  rw [List.map_ofFn]
  exact (by decide : Shape.Concatenates (List.ofFn fun _ : Fin 56 => S128x256) S7168x256 0)

/-- Fifty-six blocks below one another. -/
def stack56 (f : Fin 56 → FVec Ideal S128x256 .bf16) : FVec Ideal S7168x256 .bf16 :=
  concatenate S7168x256 0 (List.ofFn fun n : Fin 56 => ⟨S128x256, f n⟩) (stack56_fits f)

theorem stack56_apply (f : Fin 56 → FVec Ideal S128x256 .bf16) (k : Fin 7168) (l : Fin 256) :
    stack56 f (ix2 k l) = f ⟨k / 128, by omega⟩ (ix2 ⟨k % 128, by omega⟩ l) := by
  refine concatenate_ofFn_apply (t := S7168x256) (s₁ := S128x256) 0 f (stack56_fits f) rfl 128 rfl (ix2 k l) ⟨k / 128, by omega⟩ rfl
    (ix2 ⟨k % 128, by omega⟩ l) rfl fun b hb => ?_
  match b with
  | 0 => exact absurd rfl hb
  | 1 => rfl

theorem stackLast_fits (f : Fin 56 → FVec Ideal S128x64 .bf16) :
    Shape.Concatenates ((List.ofFn fun n : Fin 56 => (⟨S128x64, f n⟩ : (s : Shape) × (s.Idx → Ideal .bf16))).map (·.1)) S7168x64 0 := by
  rw [List.map_ofFn]
  exact (by decide : Shape.Concatenates (List.ofFn fun _ : Fin 56 => S128x64) S7168x64 0)

/-- Fifty-six blocks of the last, narrower tile. -/
def stackLast (f : Fin 56 → FVec Ideal S128x64 .bf16) : FVec Ideal S7168x64 .bf16 :=
  concatenate S7168x64 0 (List.ofFn fun n : Fin 56 => ⟨S128x64, f n⟩) (stackLast_fits f)

theorem stackLast_apply (f : Fin 56 → FVec Ideal S128x64 .bf16) (k : Fin 7168) (l : Fin 64) :
    stackLast f (ix2 k l) = f ⟨k / 128, by omega⟩ (ix2 ⟨k % 128, by omega⟩ l) := by
  refine concatenate_ofFn_apply (t := S7168x64) (s₁ := S128x64) 0 f (stackLast_fits f) rfl 128 rfl (ix2 k l) ⟨k / 128, by omega⟩ rfl
    (ix2 ⟨k % 128, by omega⟩ l) rfl fun b hb => ?_
  match b with
  | 0 => exact absurd rfl hb
  | 1 => rfl

/-- A block of the last tile, scaled by one scale. -/
def scaledLast (w : FVec Ideal S128x64 .fp8e4m3) (s : FVec Ideal S56x17 .f32) (k : ℕ) (h : S56x17.Slices ![k, 16] S1x1) :
    FVec Ideal S128x64 .bf16 :=
  mulf (extf .bf16 w bitsLt_fp8e4m3_bf16)
    (broadcastTo S128x64 (truncf .bf16 (broadcastTo S1x64
      (shapeCast S1x1 (extractStridedSlice S1x1 ![k, 16] s h) shapeCasts_S1x1_S1x1) broadcasts_S1x1_S1x64) bitsLt_bf16_f32)
      broadcasts_S1x64_S128x64)

theorem scaledLast_apply (w : FVec Ideal S128x64 .fp8e4m3) (s : FVec Ideal S56x17 .f32) (k : ℕ) (h : S56x17.Slices ![k, 16] S1x1)
    (k' : Fin 56) (hk : k' = k) (i : Fin 128) (l : Fin 64) :
    scaledLast w s k h (ix2 i l) = w (ix2 i l) * s (ix2 k' 16) := by
  subst hk
  pointwise [scaledLast]

/-! ## The products -/

/-- A tile of the residual sum. -/
def sumTile (h : FVec Ideal S128x2048 .bf16) (w : FVec Ideal S2048x256 .bf16) (x : FVec Ideal S128x256 .bf16)
    (r : FVec Ideal S128x256 .f32) : FVec Ideal S128x256 .f32 :=
  addf (addf (extf .f32 x bitsLt_bf16_f32)
    (matmul dot_S128x2048_S2048x256_S128x256_1_0_0_1_n_n none h w (constant S128x256 .f32 0x00000000#32))) r

theorem sumTile_apply (h : FVec Ideal S128x2048 .bf16) (w : FVec Ideal S2048x256 .bf16) (x : FVec Ideal S128x256 .bf16)
    (r : FVec Ideal S128x256 .f32) (i : Fin 128) (l : Fin 256) :
    sumTile h w x r (ix2 i l) = x (ix2 i l) + (∑ k : Fin 2048, h (ix2 i k) * w (ix2 k l)) + r (ix2 i l) := by
  pointwise [sumTile]

/-- A tile of the second product. -/
def outTile (a : FVec Ideal S128x7168 .bf16) (w : FVec Ideal S7168x256 .bf16) : FVec Ideal S128x256 .bf16 :=
  truncf .bf16 (matmul dot_S128x7168_S7168x256_S128x256_1_0_0_1_n_n none a w (constant S128x256 .f32 0x00000000#32)) bitsLt_bf16_f32

theorem outTile_apply (a : FVec Ideal S128x7168 .bf16) (w : FVec Ideal S7168x256 .bf16) (i : Fin 128) (l : Fin 256) :
    outTile a w (ix2 i l) = ∑ k : Fin 7168, a (ix2 i k) * w (ix2 k l) := by
  pointwise [outTile]

/-- The last tile of the second product. -/
def outLast (a : FVec Ideal S128x7168 .bf16) (w : FVec Ideal S7168x64 .bf16) : FVec Ideal S128x64 .bf16 :=
  truncf .bf16 (matmul dot_S128x7168_S7168x64_S128x64_1_0_0_1_n_n none a w (constant S128x64 .f32 0x00000000#32)) bitsLt_bf16_f32

theorem outLast_apply (a : FVec Ideal S128x7168 .bf16) (w : FVec Ideal S7168x64 .bf16) (i : Fin 128) (l : Fin 64) :
    outLast a w (ix2 i l) = ∑ k : Fin 7168, a (ix2 i k) * w (ix2 k l) := by
  pointwise [outLast]

/-- The dequantised hidden values of one run of 128. -/
def hidTile (h : FVec Ideal S128x128 .fp8e4m3) (s : FVec Ideal S128x1 .f32) : FVec Ideal S128x128 .bf16 :=
  shapeCast S128x128 (mulf (extf .bf16 h bitsLt_fp8e4m3_bf16)
    (broadcastTo S128x128 (truncf .bf16 s bitsLt_bf16_f32) broadcasts_S128x1_S128x128)) shapeCasts_S128x128_S128x128

theorem hidTile_apply (h : FVec Ideal S128x128 .fp8e4m3) (s : FVec Ideal S128x1 .f32) (i l : Fin 128) :
    hidTile h s (ix2 i l) = h (ix2 i l) * s (ix2 i 0) := by
  pointwise [hidTile]

/-- One tile's squares added to the running sums, half by half. -/
def squares (a : FVec Ideal S128x128 .f32) (t : FVec Ideal S128x256 .f32) : FVec Ideal S128x128 .f32 :=
  addf (addf a (extractStridedSlice S128x128 ![0, 0] (mulf t t) slices_S128x256_o0_0_S128x128))
    (extractStridedSlice S128x128 ![0, 128] (mulf t t) slices_S128x256_o0_128_S128x128)

theorem squares_apply (a : FVec Ideal S128x128 .f32) (t : FVec Ideal S128x256 .f32) (i l : Fin 128) :
    squares a t (ix2 i l) = a (ix2 i l) + t (ix2 i ⟨l, by omega⟩) * t (ix2 i ⟨l, by omega⟩) +
      t (ix2 i ⟨128 + l, by omega⟩) * t (ix2 i ⟨128 + l, by omega⟩) := by
  pointwise [squares]

end Cert.Proof.Block
-- ==== Proof.Quant.lean ====
/-
What the kernel's quantiser computes of one run of 128 columns, at an index.
-/
module

public import proofs.«01_k».proof.Proof.Spec
public import proofs.«01_k».proof.Proof.Gen.KernelIdeal.Skeleton
public import Idealize.ShloMosaic.Lib.IndicatorCount

@[expose] public section

set_option maxRecDepth 16384

noncomputable section

namespace Cert.Proof.Quant

open Idealize.ShloMosaic
open Cert.KernelIdeal Cert.KernelIdeal.Gen
open scoped BigOperators

/-- The root mean square of the rows, from the running sums of squares. -/
def rms (a : FVec Ideal S128x128 .f32) : FVec Ideal S128x1 .f32 :=
  sqrt (addf (divf (shapeCast S128x1 (multiReduction .add [1] S128 a 0x00000000#32 reduces_S128x128_S128 (.inl rfl) rfl)
    shapeCasts_S128_S128x1) (broadcast S128x1 (Scalar.ofBits .f32 0x45E00000#32)))
    (broadcast S128x1 (Scalar.ofBits .f32 0x358637BD#32)))

theorem rms_apply (a : FVec Ideal S128x128 .f32) (i : Fin 128) :
    rms a (ix2 i 0) = Ideal.sqrt (Ideal.div (∑ l : Fin 128, a (ix2 i l)) (Ideal.ofBits .f32 0x45E00000#32)
      + Ideal.ofBits .f32 0x358637BD#32) := by
  pointwise [rms]

/-- A run, normalised. -/
def normRun (d : FVec Ideal S128x1 .f32) (v : FVec Ideal S128x128 .f32) (g : FVec Ideal S1x128 .f32) : FVec Ideal S128x128 .f32 :=
  mulf (divf v (broadcastTo S128x128 d broadcasts_S128x1_S128x128))
    (broadcastTo S128x128 (shapeCast S1x128 g shapeCasts_S1x128_S1x128) broadcasts_S1x128_S128x128)

theorem normRun_apply (d : FVec Ideal S128x1 .f32) (v : FVec Ideal S128x128 .f32) (g : FVec Ideal S1x128 .f32) (i l : Fin 128) :
    normRun d v g (ix2 i l) = Ideal.div (v (ix2 i l)) (d (ix2 i 0)) * g (ix2 0 l) := by
  pointwise [normRun]

/-- The greatest magnitude of a run's rows, over 448. -/
def amaxRun (y : FVec Ideal S128x128 .f32) : FVec Ideal S128x1 .f32 :=
  mulf (shapeCast S128x1 (multiReduction .maximumf [1] S128 (absf y) 0xFF800000#32 reduces_S128x128_S128 (.inl rfl) rfl)
    shapeCasts_S128_S128x1) (broadcast S128x1 (Scalar.ofBits .f32 0x3B124925#32))

theorem amaxRun_apply (y : FVec Ideal S128x128 .f32) (i : Fin 128) :
    amaxRun y (ix2 i 0) = Finset.univ.fold max (Ideal.ofBits .f32 0xFF800000#32) (fun l : Fin 128 => max (y (ix2 i l)) (-y (ix2 i l)))
      * Ideal.ofBits .f32 0x3B124925#32 := by
  pointwise [amaxRun]
  rfl

/-- Which rows have no magnitude. -/
def zeroRun (a : FVec Ideal S128x1 .f32) : IVec S128x1 1 :=
  cmpf .oeq a (broadcast S128x1 (Scalar.ofBits .f32 0x00000000#32))

theorem zeroRun_apply (a : FVec Ideal S128x1 .f32) (i : Fin 128) :
    zeroRun a (ix2 i 0) = if a (ix2 i 0) = 0 then 1#1 else 0#1 := by
  pointwise [zeroRun]
  by_cases h : a (ix2 i 0) = 0 <;> simp [h]

/-- The 254 normal powers of two and infinity, as their words. -/
def powers : IVec S1x255 32 :=
  shli (addi (subi (iota .tc S1x255 32 [1] iota_S1x255_d1_w32) (broadcast S1x255 126#32)) (broadcast S1x255 127#32))
    (broadcast S1x255 23#32)

/-- Which of them the rows stay below. -/
def missed (a : FVec Ideal S128x1 .f32) : IVec S128x255 1 :=
  cmpf .olt (broadcastTo S128x255 a broadcasts_S128x1_S128x255)
    (broadcastTo S128x255 (bitcastToFloat .f32 powers) broadcasts_S1x255_S128x255)

/-- How many of them the rows stay below. -/
def missedRun (a : FVec Ideal S128x1 .f32) : IVec S128x1 32 :=
  shapeCast S128x1 (multiReductionI .add [1] S128 (extui 32 (missed a) natLt_1_32) 0#32 reduces_S128x255_S128 rfl)
    shapeCasts_S128_S128x1

/-- How many of them the rows reach. -/
def countRun (a : FVec Ideal S128x1 .f32) : IVec S128x1 32 := subi (broadcast S128x1 255#32) (missedRun a)

theorem powers_apply (k : Fin 255) :
    powers (ix2 0 k) = ((BitVec.ofNat 32 k - 126#32) + 127#32) <<< 23 := by
  pointwise [powers]
  rfl

theorem missed_apply (a : FVec Ideal S128x1 .f32) (i : Fin 128) (k : Fin 255) :
    missed a (ix2 i k) = if a (ix2 i 0) < Ideal.ofBits .f32 (powers (ix2 0 k)) then 1#1 else 0#1 := by
  pointwise [missed]
  by_cases h : a (ix2 i 0) < Ideal.ofBits .f32 (powers (ix2 0 k)) <;> simp [h]

theorem missedRun_fold (a : FVec Ideal S128x1 .f32) (i : Fin 128) :
    missedRun a (ix2 i 0) = Finset.univ.fold IntOp.addi 0#32 (fun k : Fin 255 => (missed a (ix2 i k)).setWidth 32) := by
  pointwise [missedRun]

theorem countRun_sub (a : FVec Ideal S128x1 .f32) (i : Fin 128) : countRun a (ix2 i 0) = 255#32 - missedRun a (ix2 i 0) := by
  pointwise [countRun]
  rfl

/-- The exponent of the scale. -/
def expRun (z : IVec S128x1 1) (n : IVec S128x1 32) : IVec S128x1 32 :=
  select z (broadcast S128x1 0#32) (subi n (broadcast S128x1 126#32))

theorem expRun_apply (z : IVec S128x1 1) (n : IVec S128x1 32) (i : Fin 128) :
    expRun z n (ix2 i 0) = if z (ix2 i 0) = 1#1 then 0#32 else n (ix2 i 0) - 126#32 := by
  pointwise [expRun]
  rfl

/-- The power of two of an exponent. -/
def powRun (e : IVec S128x1 32) : FVec Ideal S128x1 .f32 :=
  bitcastToFloat .f32 (shli (addi e (broadcast S128x1 127#32)) (broadcast S128x1 23#32))

theorem powRun_apply (e : IVec S128x1 32) (i : Fin 128) :
    powRun e (ix2 i 0) = Ideal.ofBits .f32 ((e (ix2 i 0) + 127#32) <<< 23) := by
  pointwise [powRun]
  rfl

/-- The opposite exponent. -/
def negRun (e : IVec S128x1 32) : IVec S128x1 32 := subi (broadcast S128x1 0#32) e

theorem negRun_apply (e : IVec S128x1 32) (i : Fin 128) : negRun e (ix2 i 0) = 0#32 - e (ix2 i 0) := by
  pointwise [negRun]
  rfl

/-- The codes of a run, from its values and the reciprocal scale. -/
def clipRun (y : FVec Ideal S128x128 .f32) (s : FVec Ideal S128x1 .f32) : FVec Ideal S128x128 .fp8e4m3 :=
  truncf .fp8e4m3 (minimumf (broadcast S128x128 (Scalar.ofBits .f32 0x43E00000#32))
    (maximumf (broadcast S128x128 (Scalar.ofBits .f32 0xC3E00000#32))
      (mulf y (broadcastTo S128x128 s broadcasts_S128x1_S128x128)))) bitsLt_fp8e4m3_f32

theorem clipRun_apply (y : FVec Ideal S128x128 .f32) (s : FVec Ideal S128x1 .f32) (i l : Fin 128) :
    clipRun y s (ix2 i l) = min (Ideal.ofBits .f32 0x43E00000#32)
      (max (Ideal.ofBits .f32 0xC3E00000#32) (y (ix2 i l) * s (ix2 i 0))) := by
  pointwise [clipRun]

/-- The scales of a run's rows. -/
def scaleRun (a : FVec Ideal S128x1 .f32) : FVec Ideal S128x1 .f32 := powRun (expRun (zeroRun a) (countRun a))

/-- The codes of a run. -/
def codeRun (y : FVec Ideal S128x128 .f32) : FVec Ideal S128x128 .fp8e4m3 :=
  clipRun y (powRun (negRun (expRun (zeroRun (amaxRun y)) (countRun (amaxRun y)))))

/-- The dequantised codes of a run. -/
def actRun (y : FVec Ideal S128x128 .f32) : FVec Ideal S128x128 .bf16 :=
  shapeCast S128x128 (mulf (extf .bf16 (codeRun y) bitsLt_fp8e4m3_bf16)
    (broadcastTo S128x128 (truncf .bf16 (scaleRun (amaxRun y)) bitsLt_bf16_f32) broadcasts_S128x1_S128x128)) shapeCasts_S128x128_S128x128

theorem timesScale (c : FVec Ideal S128x128 .fp8e4m3) (s : FVec Ideal S128x1 .f32) (i l : Fin 128) :
    shapeCast S128x128 (mulf (extf .bf16 c bitsLt_fp8e4m3_bf16)
      (broadcastTo S128x128 (truncf .bf16 s bitsLt_bf16_f32) broadcasts_S128x1_S128x128)) shapeCasts_S128x128_S128x128 (ix2 i l) =
      c (ix2 i l) * s (ix2 i 0) := by
  pointwise

theorem actRun_apply (y : FVec Ideal S128x128 .f32) (i l : Fin 128) :
    actRun y (ix2 i l) = codeRun y (ix2 i l) * scaleRun (amaxRun y) (ix2 i 0) :=
  timesScale _ _ i l

/-! ## The count, the scale and its reciprocal -/

theorem power_word : ∀ k : Fin 255, ((BitVec.ofNat 32 k - 126#32) + 127#32) <<< 23 = BitVec.ofNat 32 (k + 1) <<< 23 := by
  decide +kernel

theorem infinity_word : Ideal.ofBits .f32 (BitVec.ofNat 32 (254 + 1) <<< 23) = ⊤ := by
  simp [Ideal.ofBits, Ideal.ieee, -EReal.coe_mul]

/-- A magnitude stays below all but the first `count` of them. -/
theorem missed_eq (a : FVec Ideal S128x1 .f32) (i : Fin 128) (k : Fin 255) (h : a (ix2 i 0) < p2 253) :
    missed a (ix2 i k) = if count (a (ix2 i 0)) ≤ (k : ℕ) then 1#1 else 0#1 := by
  have hc := count_le h
  rw [missed_apply, powers_apply, power_word]
  by_cases hk : (k : ℕ) < 254
  · have e := le_iff_lt_count (a (ix2 i 0)) ⟨k, hk⟩
    rw [ofBits_field _ (by omega) (by omega)]
    exact if_congr ((lt_iff_not_ge.trans (not_congr e)).trans not_lt) rfl rfl
  · have e : (k : ℕ) = 254 := by omega
    rw [e, infinity_word, if_pos (lt_top_of_lt h), if_pos (by omega)]

theorem count_word : ∀ n : Fin 254, 255#32 - BitVec.ofNat 32 (255 - n) = BitVec.ofNat 32 n := by decide +kernel

theorem countRun_apply (a : FVec Ideal S128x1 .f32) (i : Fin 128) (h : a (ix2 i 0) < p2 253) :
    countRun a (ix2 i 0) = BitVec.ofNat 32 (count (a (ix2 i 0))) := by
  have hc := count_le h
  have e : (Finset.univ.filter fun k : Fin 255 => missed a (ix2 i k) = 1#1) = Finset.Ici ⟨count (a (ix2 i 0)), by omega⟩ := by
    ext k
    simp only [Finset.mem_filter, Finset.mem_univ, true_and, missed_eq a i k h, Finset.mem_Ici, Fin.le_def]
    split_ifs with hk <;> simp [hk]
  rw [countRun_sub, missedRun_fold, IndicatorCount.fold_addi_setWidth_eq_card, e, Fin.card_Ici]
  exact count_word ⟨_, by omega⟩

theorem scale_word : ∀ k : Fin 254, (BitVec.ofNat 32 k - 126#32 + 127#32) <<< 23 = BitVec.ofNat 32 (k + 1) <<< 23
    ∧ (0#32 - (BitVec.ofNat 32 k - 126#32) + 127#32) <<< 23 = BitVec.ofNat 32 (253 - k) <<< 23 := by
  decide +kernel

theorem one_word : Ideal.ofBits .f32 ((0#32 + 127#32) <<< 23) = 1 := by
  refine (ofBits_field 127 (by omega) (by omega)).trans ?_
  simp [p2]

theorem scaleRun_apply (a : FVec Ideal S128x1 .f32) (i : Fin 128) (h : a (ix2 i 0) < p2 253) :
    scaleRun a (ix2 i 0) = scaleOf (a (ix2 i 0)) := by
  have hc := count_le h
  unfold scaleRun scaleOf
  rw [powRun_apply, expRun_apply, zeroRun_apply, countRun_apply a i h]
  by_cases h0 : a (ix2 i 0) = 0
  · simp only [h0, if_true]
    exact one_word
  · simp only [h0, if_false, show ¬ (0#1 = 1#1) by decide]
    rw [(scale_word ⟨count (a (ix2 i 0)), by omega⟩).1, ofBits_field _ (by omega) (by simp only; omega)]

theorem reciprocal_apply (a : FVec Ideal S128x1 .f32) (i : Fin 128) (h : a (ix2 i 0) < p2 253) :
    powRun (negRun (expRun (zeroRun a) (countRun a))) (ix2 i 0) =
      if a (ix2 i 0) = 0 then 1 else p2 (253 - count (a (ix2 i 0))) := by
  have hc := count_le h
  rw [powRun_apply, negRun_apply, expRun_apply, zeroRun_apply, countRun_apply a i h]
  by_cases h0 : a (ix2 i 0) = 0
  · simp only [h0, if_true]
    exact one_word
  · simp only [h0, if_false, show ¬ (0#1 = 1#1) by decide]
    rw [(scale_word ⟨count (a (ix2 i 0)), by omega⟩).2, ofBits_field _ (by simp only; omega) (by simp only; omega)]

theorem codeRun_apply (y : FVec Ideal S128x128 .f32) (i l : Fin 128) (h : amaxRun y (ix2 i 0) < p2 253) :
    codeRun y (ix2 i l) = min (Ideal.ofBits .f32 0x43E00000#32)
      (max (Ideal.ofBits .f32 0xC3E00000#32) (Ideal.div (y (ix2 i l)) (scaleOf (amaxRun y (ix2 i 0))))) := by
  unfold codeRun
  rw [clipRun_apply, reciprocal_apply _ _ h, div_scaleOf h]

/-! ## The scales side by side -/

theorem beside_fits (f : Fin 56 → FVec Ideal S128x1 .f32) :
    Shape.Concatenates ((List.ofFn fun n : Fin 56 => (⟨S128x1, f n⟩ : (s : Shape) × (s.Idx → Ideal .f32))).map (·.1)) S128x56 1 := by
  rw [List.map_ofFn]
  exact (by decide : Shape.Concatenates (List.ofFn fun _ : Fin 56 => S128x1) S128x56 1)

/-- Fifty-six columns beside one another. -/
def beside (f : Fin 56 → FVec Ideal S128x1 .f32) : FVec Ideal S128x56 .f32 :=
  concatenate S128x56 1 (List.ofFn fun n : Fin 56 => ⟨S128x1, f n⟩) (beside_fits f)

theorem beside_apply (f : Fin 56 → FVec Ideal S128x1 .f32) (i : Fin 128) (r : Fin 56) :
    beside f (ix2 i r) = f r (ix2 i 0) := by
  refine concatenate_ofFn_apply (t := S128x56) (s₁ := S128x1) 1 f (beside_fits f) rfl 1 rfl (ix2 i r) r (Nat.div_one _)
    (ix2 i 0) (Nat.mod_one _).symm fun b hb => ?_
  match b with
  | 0 => rfl
  | 1 => exact absurd rfl hb

end Cert.Proof.Quant
-- ==== Proof.Words.lean ====
/-
The kernel's unrolled body as generic lists.

The body's stores, tile by tile and run by run, are the lists that `Block` and `Quant` describe, counted down from the last
tile to the first. The equations hold by evaluation.
-/
module

public import proofs.«01_k».proof.Proof.Block
public import proofs.«01_k».proof.Proof.Quant
public import proofs.«01_k».proof.Proof.Gen.KernelIdeal.Frame.RunA

@[expose] public section

set_option maxRecDepth 16384

noncomputable section

namespace Cert.Proof.Words

open Idealize.ShloMosaic
open Cert.KernelIdeal Cert.KernelIdeal.Gen
open Cert.Proof.Block Cert.Proof.Quant
open scoped BigOperators

/-- The values of a function on the numbers below `n`, the last one first. -/
def downFrom {α : Type} : (n : ℕ) → ((k : ℕ) → k < n → α) → List α
  | 0, _ => []
  | n + 1, f => f n n.lt_succ_self :: downFrom n fun k hk => f k (Nat.lt_succ_of_lt hk)

/-- A rectangle of unit steps of a two-dimensional array fits. -/
theorem fits {a b p q r s : ℕ} (h : p + r ≤ a) (h' : q + s ≤ b) :
    ∀ d, (![p, q] : Fin 2 → ℕ) d + (⟨2, ![r, s]⟩ : Shape).size d ≤ (⟨2, ![a, b]⟩ : Shape).size d
  | 0 => h
  | 1 => h'

/-- An entry of a two-dimensional array is a slice of it. -/
theorem slices {a b p q : ℕ} (h : p < a) (h' : q < b) : (⟨2, ![a, b]⟩ : Shape).Slices ![p, q] S1x1 :=
  ⟨rfl, fun d => match d with
    | 0 => h
    | 1 => h'⟩

/-- What the body is run on: its buffers, and what the windows of the arguments hold. -/
structure Args where
  c : Dev nD
  i : grid0.Coords
  arg1 : Memref sig .tc .vmem S128x7168 .bf16
  harg1 : arg1.IsWhole
  arg2 : Memref sig .tc .vmem S128x7168 .f32
  harg2 : arg2.IsWhole
  arg3 : Memref sig .tc .vmem S128x2048 .fp8e4m3
  harg3 : arg3.IsWhole
  arg4 : Memref sig .tc .vmem S128x16 .f32
  harg4 : arg4.IsWhole
  arg5 : Memref sig .tc .vmem S2048x7168 .fp8e4m3
  harg5 : arg5.IsWhole
  arg6 : Memref sig .tc .vmem S16x56 .f32
  harg6 : arg6.IsWhole
  arg7 : Memref sig .tc .vmem S1x7168 .f32
  harg7 : arg7.IsWhole
  arg8 : Memref sig .tc .vmem S7168x2112 .fp8e4m3
  harg8 : arg8.IsWhole
  arg9 : Memref sig .tc .vmem S56x17 .f32
  harg9 : arg9.IsWhole
  arg10 : Memref sig .tc .vmem S128x7168 .bf16
  harg10 : arg10.IsWhole
  arg11 : Memref sig .tc .vmem S128x2112 .bf16
  harg11 : arg11.IsWhole
  arg12 : Memref sig .tc .vmem S128x7168 .fp8e4m3
  harg12 : arg12.IsWhole
  arg13 : Memref sig .tc .vmem S128x56 .f32
  harg13 : arg13.IsWhole
  arg14 : Memref sig .tc .vmem S128x7168 .f32
  harg14 : arg14.IsWhole
  arg15 : Memref sig .tc .vmem S128x2048 .bf16
  harg15 : arg15.IsWhole
  arg16 : Memref sig .tc .vmem S128x7168 .bf16
  harg16 : arg16.IsWhole
  x0 : Vec Ideal S128x7168 .bf16
  x1 : Vec Ideal S128x7168 .f32
  x2 : Vec Ideal S128x2048 .fp8e4m3
  x3 : Vec Ideal S128x16 .f32
  x4 : Vec Ideal S2048x7168 .fp8e4m3
  x5 : Vec Ideal S16x56 .f32
  x6 : Vec Ideal S1x7168 .f32
  x7 : Vec Ideal S7168x2112 .fp8e4m3
  x8 : Vec Ideal S56x17 .f32

variable (A : Args)

namespace Args

/-- The whole body's run. -/
abbrev run := kernelRun0_A (F := Ideal) A.c A.i A.arg1 A.harg1 A.arg2 A.harg2 A.arg3 A.harg3 A.arg4 A.harg4 A.arg5
    A.harg5 A.arg6 A.harg6 A.arg7 A.harg7 A.arg8 A.harg8 A.arg9
    A.harg9 A.arg10 A.harg10 A.arg11 A.harg11 A.arg12 A.harg12 A.arg13
    A.harg13 A.arg14 A.harg14 A.arg15 A.harg15 A.arg16 A.harg16
    A.x0 A.x1 A.x2 A.x3 A.x4 A.x5 A.x6 A.x7 A.x8

/-! ## The hidden values -/

/-- The stores of the dequantised hidden values. -/
abbrev hidStores : List (View.Piece (Elt Ideal) S128x2048 .bf16) :=
  kernelRun0_A.sl.HS1_16 (F := Ideal) A.c A.arg3 A.harg3 A.arg4 A.harg4 A.x2 A.x3

/-- The hidden values of a run of 128, dequantised. -/
def hid (k : ℕ) (hk : k < 16) : FVec Ideal S128x128 .bf16 :=
  hidTile
    (View.readAt (Elt Ideal) A.arg3.view
      (Rect.unit (s := S128x2048) ![0, 128 * k] S128x128.size (fits (by omega) (by omega))).toLoadRect (A.harg3.unread A.x2))
    (View.readAt (Elt Ideal) A.arg4.view
      (Rect.unit (s := S128x16) ![0, k] S128x1.size (fits (by omega) (by omega))).toLoadRect (A.harg4.unread A.x3))

theorem hidStores_eq : A.hidStores =
    downFrom 16 fun k hk => ⟨Rect.unit ![0, 128 * k] S128x128.size (fits (by omega) (by omega)), A.hid k hk⟩ := by
  sl_kernel_rfl

/-! ## The residual sum -/

/-- What is loaded of the hidden values. -/
abbrev hidLoad : Vec Ideal S128x2048 .bf16 :=
  kernelRun0_A.sl.v145 (F := Ideal) A.c A.arg3 A.harg3 A.arg4 A.harg4 A.arg15 A.x2 A.x3

/-- The scales of the first weights. -/
abbrev scales2 : Vec Ideal S16x56 .f32 := kernelRun0_A.sl.r_5 (F := Ideal) A.c A.arg6 A.harg6 A.x5

/-- A block of the first weights, dequantised. -/
def w2Block (n : ℕ) (hn : n < 28) (k : ℕ) (hk : k < 16) : FVec Ideal S128x256 .bf16 :=
  scaled
    (View.readAt (Elt Ideal) A.arg5.view
      (Rect.unit (s := S2048x7168) ![128 * k, 256 * n] S128x256.size (fits (by omega) (by omega))).toLoadRect (A.harg5.unread A.x4))
    (col A.scales2 k (2 * n) (slices (by omega) (by omega))) (col A.scales2 k (2 * n + 1) (slices (by omega) (by omega)))

/-- A tile of the residual sum. -/
def tile (n : ℕ) (hn : n < 28) : FVec Ideal S128x256 .f32 :=
  sumTile A.hidLoad (stack16 fun k => A.w2Block n hn k k.isLt)
    (View.readAt (Elt Ideal) A.arg1.view
      (Rect.unit (s := S128x7168) ![0, 256 * n] S128x256.size (fits (by omega) (by omega))).toLoadRect (A.harg1.unread A.x0))
    (View.readAt (Elt Ideal) A.arg2.view
      (Rect.unit (s := S128x7168) ![0, 256 * n] S128x256.size (fits (by omega) (by omega))).toLoadRect (A.harg2.unread A.x1))

/-- The stores of the residual sum. -/
abbrev sumStores : List (View.Piece (Elt Ideal) S128x7168 .f32) :=
  kernelRun0_A.sl.HS0_28 (F := Ideal) A.c A.arg1 A.harg1 A.arg2 A.harg2 A.arg3 A.harg3 A.arg4 A.harg4 A.arg5 A.harg5 A.arg6 A.harg6
    A.arg15 A.x0 A.x1 A.x2 A.x3 A.x4 A.x5

theorem sumStores_eq : A.sumStores =
    downFrom 28 fun n hn => ⟨Rect.unit ![0, 256 * n] S128x256.size (fits (by omega) (by omega)),
      shapeCast S128x256 (A.tile n hn) shapeCasts_S128x256_S128x256⟩ := by
  sl_kernel_rfl

/-- The first result's stores. -/
theorem sumResult_eq : A.run.1 =
    downFrom 28 fun n hn => ⟨Rect.unit ![0, 256 * n] S128x256.size (fits (by omega) (by omega)),
      truncf .bf16 (A.tile n hn) bitsLt_bf16_f32⟩ := by
  sl_kernel_rfl

/-! ## The root mean square -/

/-- The running sums of squares after the first `n` tiles. -/
def sums : (n : ℕ) → ((k : ℕ) → k < n → FVec Ideal S128x256 .f32) → FVec Ideal S128x128 .f32
  | 0, _ => broadcast S128x128 (Scalar.ofBits .f32 0x00000000#32)
  | n + 1, f => squares (sums n fun k hk => f k (Nat.lt_succ_of_lt hk)) (f n n.lt_succ_self)

/-- The root mean square of the rows. -/
abbrev den : FVec Ideal S128x1 .f32 :=
  kernelRun0_A.sl.r_621 (F := Ideal) A.c A.arg1 A.harg1 A.arg2 A.harg2 A.arg3 A.harg3 A.arg4 A.harg4 A.arg5 A.harg5 A.arg6 A.harg6
    A.arg15 A.x0 A.x1 A.x2 A.x3 A.x4 A.x5

theorem den_eq : A.den = rms (sums 28 A.tile) := by
  sl_kernel_rfl

/-! ## The quantised runs -/

/-- What is loaded of a run of the residual sum. -/
def sumLoad (r : ℕ) (hr : r < 56) : FVec Ideal S128x128 .f32 :=
  A.arg14.view.readCov A.sumStores
    (Rect.unit (s := S128x7168) ![0, 128 * r] S128x128.size (fits (by omega) (by omega))).toLoadRect

/-- A run, normalised. -/
def normed (r : ℕ) (hr : r < 56) : FVec Ideal S128x128 .f32 :=
  normRun A.den (A.sumLoad r hr)
    (View.readAt (Elt Ideal) A.arg7.view
      (Rect.unit (s := S1x7168) ![0, 128 * r] S1x128.size (fits (by omega) (by omega))).toLoadRect (A.harg7.unread A.x6))

/-- The stores of the codes. -/
theorem codes_eq : A.run.2.2.1 =
    downFrom 56 fun r hr => ⟨Rect.unit ![0, 128 * r] S128x128.size (fits (by omega) (by omega)), codeRun (A.normed r hr)⟩ := by
  sl_kernel_rfl

/-- The store of the scales. -/
theorem scales_eq : A.run.2.2.2.1 =
    [⟨Rect.unit ![0, 0] S128x56.size (fits (by omega) (by omega)), beside fun r => scaleRun (amaxRun (A.normed r r.isLt))⟩] := by
  sl_kernel_rfl

/-- The stores of the dequantised codes. -/
abbrev actStores : List (View.Piece (Elt Ideal) S128x7168 .bf16) :=
  kernelRun0_A.sl.HS2_56 (F := Ideal) A.c A.arg1 A.harg1 A.arg2 A.harg2 A.arg3 A.harg3 A.arg4 A.harg4 A.arg5 A.harg5 A.arg6 A.harg6
    A.arg7 A.harg7 A.arg14 A.arg15 A.x0 A.x1 A.x2 A.x3 A.x4 A.x5 A.x6

theorem actStores_eq : A.actStores =
    downFrom 56 fun r hr => ⟨Rect.unit ![0, 128 * r] S128x128.size (fits (by omega) (by omega)), actRun (A.normed r hr)⟩ := by
  sl_kernel_rfl

/-! ## The second product -/

/-- What is loaded of the dequantised codes. -/
abbrev actLoad : Vec Ideal S128x7168 .bf16 :=
  kernelRun0_A.sl.v9926 (F := Ideal) A.c A.arg1 A.harg1 A.arg2 A.harg2 A.arg3 A.harg3 A.arg4 A.harg4 A.arg5 A.harg5 A.arg6 A.harg6
    A.arg7 A.harg7 A.arg14 A.arg15 A.arg16 A.x0 A.x1 A.x2 A.x3 A.x4 A.x5 A.x6

/-- The scales of the second weights. -/
abbrev scalesQ : Vec Ideal S56x17 .f32 := kernelRun0_A.sl.r_836 (F := Ideal) A.c A.arg9 A.harg9 A.x8

/-- A block of the second weights, dequantised. -/
def wqBlock (n : ℕ) (hn : n < 8) (k : ℕ) (hk : k < 56) : FVec Ideal S128x256 .bf16 :=
  scaled
    (View.readAt (Elt Ideal) A.arg8.view
      (Rect.unit (s := S7168x2112) ![128 * k, 256 * n] S128x256.size (fits (by omega) (by omega))).toLoadRect (A.harg8.unread A.x7))
    (col A.scalesQ k (2 * n) (slices (by omega) (by omega))) (col A.scalesQ k (2 * n + 1) (slices (by omega) (by omega)))

/-- A block of the second weights' last columns, dequantised. -/
def wqLast (k : ℕ) (hk : k < 56) : FVec Ideal S128x64 .bf16 :=
  scaledLast
    (View.readAt (Elt Ideal) A.arg8.view
      (Rect.unit (s := S7168x2112) ![128 * k, 2048] S128x64.size (fits (by omega) (by omega))).toLoadRect (A.harg8.unread A.x7))
    A.scalesQ k (slices (by omega) (by omega))

/-- The second product's stores. -/
theorem qkv_eq : A.run.2.1 =
    ⟨Rect.unit ![0, 2048] S128x64.size (fits (by omega) (by omega)), outLast A.actLoad (stackLast fun k => A.wqLast k k.isLt)⟩ ::
    downFrom 8 fun n hn => ⟨Rect.unit ![0, 256 * n] S128x256.size (fits (by omega) (by omega)),
      outTile A.actLoad (stack56 fun k => A.wqBlock n hn k k.isLt)⟩ := by
  sl_kernel_rfl

end Args

end Cert.Proof.Words
-- ==== Proof.Values.lean ====
/-
What the kernel's body leaves in its buffers, at an index.
-/
module

public import proofs.«01_k».proof.Proof.Words

@[expose] public section

set_option maxRecDepth 16384

noncomputable section

namespace Cert.Proof.Words

open Idealize.ShloMosaic
open Cert.KernelIdeal Cert.KernelIdeal.Gen
open Cert.Proof.Block Cert.Proof.Quant
open scoped BigOperators

/-! ## Strips of columns -/

theorem mem_downFrom {α : Type} {p : α} : ∀ {n : ℕ} {f : (k : ℕ) → k < n → α}, p ∈ downFrom n f ↔ ∃ k hk, f k hk = p
  | 0, f => by simp [downFrom]
  | n + 1, f => by
    rw [downFrom, List.mem_cons, mem_downFrom]
    constructor
    · rintro (rfl | ⟨k, hk, rfl⟩)
      · exact ⟨n, _, rfl⟩
      · exact ⟨k, _, rfl⟩
    · rintro ⟨k, hk, rfl⟩
      rcases Nat.lt_succ_iff_lt_or_eq.1 hk with h | rfl
      · exact Or.inr ⟨k, h, rfl⟩
      · exact Or.inl rfl

/-- Where a rectangle of unit steps puts an index. -/
theorem unit_emb {a b p q r s : ℕ} (h : ∀ d, (![p, q] : Fin 2 → ℕ) d + (⟨2, ![r, s]⟩ : Shape).size d ≤ (⟨2, ![a, b]⟩ : Shape).size d)
    (i : Fin r) (l : Fin s) (i' : Fin a) (l' : Fin b) (hi : (i' : ℕ) = p + i) (hl : (l' : ℕ) = q + l) :
    (Rect.unit (s := ⟨2, ![a, b]⟩) ![p, q] (⟨2, ![r, s]⟩ : Shape).size h).emb (ix2 i l) = ix2 i' l' := by
  funext d
  apply Fin.ext
  match d with
  | 0 => show p + 1 * i.val = i'.val; omega
  | 1 => show q + 1 * l.val = l'.val; omega

/-- An index of a two-dimensional array is its two coordinates. -/
theorem eta {r s : ℕ} (x : (⟨2, ![r, s]⟩ : Shape).Idx) : x = ix2 (x 0) (x 1) := by
  funext d
  match d with
  | 0 => rfl
  | 1 => rfl

/-- The strip of columns at `q`. -/
abbrev strip {e : EltTy} {a b w : ℕ} (q : ℕ) (h : q + w ≤ b) (v : (⟨2, ![a, w]⟩ : Shape).Idx → Elt Ideal e) :
    View.Piece (Elt Ideal) ⟨2, ![a, b]⟩ e :=
  ⟨Rect.unit ![0, q] (⟨2, ![a, w]⟩ : Shape).size (fits (Nat.zero_add a).le h), v⟩

/-- A buffer stored strip by strip holds what every strip holds. -/
theorem canon_strips {e : EltTy} {a b : ℕ} (L : List (View.Piece (Elt Ideal) ⟨2, ![a, b]⟩ e)) (G : Fin a → Fin b → Elt Ideal e)
    (hL : ∀ p ∈ L, ∃ (w q : ℕ) (h : q + w ≤ b) (v : (⟨2, ![a, w]⟩ : Shape).Idx → Elt Ideal e),
      p = strip q h v ∧ ∀ (i : Fin a) (l : Fin w), v (ix2 i l) = G i ⟨q + l, by omega⟩)
    (i : Fin a) (j : Fin b) (hc : ∃ (w q : ℕ) (h : q + w ≤ b) (v : (⟨2, ![a, w]⟩ : Shape).Idx → Elt Ideal e),
      strip q h v ∈ L ∧ q ≤ j ∧ (j : ℕ) < q + w) :
    View.canon L (ix2 i j) = G i j := by
  refine View.canon_apply_of_pieces (fun y => G (y 0) (y 1)) L (fun p hp x => ?_) (ix2 i j) ?_
  · obtain ⟨w, q, h, v, rfl, hv⟩ := hL p hp
    have key : ∀ x : (⟨2, ![a, w]⟩ : Shape).Idx, v x =
        (fun y : (⟨2, ![a, b]⟩ : Shape).Idx => G (y 0) (y 1)) ((strip (e := e) (a := a) q h v).1.emb x) := by
      intro x
      obtain ⟨i, l, rfl⟩ : ∃ i l, x = ix2 i l := ⟨_, _, eta x⟩
      refine (hv i l).trans ?_
      exact (congrArg (fun y : (⟨2, ![a, b]⟩ : Shape).Idx => G (y 0) (y 1))
        (unit_emb (fits (Nat.zero_add a).le h) i l i ⟨q + l, by omega⟩ (Nat.zero_add _).symm rfl)).symm
    exact key x
  · obtain ⟨w, q, h, v, hm, h1, h2⟩ := hc
    refine ⟨_, hm, ?_⟩
    have := unit_emb (a := a) (b := b) (fits (Nat.zero_add a).le h) i (⟨j - q, by omega⟩ : Fin w) i j (Nat.zero_add _).symm
      (by simp only; omega)
    rw [← this]
    exact LoadRect.idx_mem _ _

/-- Strips of one width, side by side. -/
theorem canon_downFrom {e : EltTy} {a b w n : ℕ} (hb : b = w * n) (v : (k : ℕ) → k < n → (⟨2, ![a, w]⟩ : Shape).Idx → Elt Ideal e)
    (G : Fin a → Fin b → Elt Ideal e)
    (hf : ∀ k, k < n → w * k + w ≤ b)
    (hv : ∀ k (hk : k < n) (i : Fin a) (l : Fin w), v k hk (ix2 i l) = G i ⟨w * k + l, by have := hf k hk; omega⟩) (i : Fin a) (j : Fin b) :
    View.canon (downFrom n fun k hk => strip (w * k) (hf k hk) (v k hk)) (ix2 i j) = G i j := by
  refine canon_strips _ G (fun p hp => ?_) i j ?_
  · obtain ⟨k, hk, rfl⟩ := mem_downFrom.1 hp
    exact ⟨w, w * k, hf k hk, v k hk, rfl, hv k hk⟩
  · have hw : 0 < w := Nat.pos_of_ne_zero fun h => by subst h; have := j.isLt; omega
    have hk : (j : ℕ) / w < n := (Nat.div_lt_iff_lt_mul hw).2 (by rw [Nat.mul_comm, ← hb]; exact j.isLt)
    exact ⟨w, w * (j / w), hf _ hk, v _ hk, mem_downFrom.2 ⟨_, hk, rfl⟩, Nat.mul_div_le _ _, by
      have := Nat.div_add_mod (j : ℕ) w; have := Nat.mod_lt (j : ℕ) hw; omega⟩

/-- What a load of an argument's window reads. -/
theorem load_apply {e : EltTy} {a b p q r s : ℕ} (m : Memref sig .tc .vmem ⟨2, ![a, b]⟩ e) (hm : m.IsWhole)
    (x : Vec Ideal ⟨2, ![a, b]⟩ e)
    (h : ∀ d, (![p, q] : Fin 2 → ℕ) d + (⟨2, ![r, s]⟩ : Shape).size d ≤ (⟨2, ![a, b]⟩ : Shape).size d)
    (i : Fin r) (l : Fin s) (i' : Fin a) (l' : Fin b) (hi : (i' : ℕ) = p + i) (hl : (l' : ℕ) = q + l) :
    View.readAt (Elt Ideal) m.view (Rect.unit (s := ⟨2, ![a, b]⟩) ![p, q] (⟨2, ![r, s]⟩ : Shape).size h).toLoadRect (hm.unread x)
      (ix2 i l) = x (ix2 i' l') := by
  rw [View.readAt_eq_ld, Memref.IsWhole.read_unread]
  exact congrArg x (unit_emb h i l i' l' hi hl)

/-- What a load of a buffer stored before reads. -/
theorem reload_apply {e : EltTy} {a b p q r s : ℕ} (m : Memref sig .tc .vmem ⟨2, ![a, b]⟩ e) (L : List (View.Piece (Elt Ideal) ⟨2, ![a, b]⟩ e))
    (h : ∀ d, (![p, q] : Fin 2 → ℕ) d + (⟨2, ![r, s]⟩ : Shape).size d ≤ (⟨2, ![a, b]⟩ : Shape).size d)
    (i : Fin r) (l : Fin s) (i' : Fin a) (l' : Fin b) (hi : (i' : ℕ) = p + i) (hl : (l' : ℕ) = q + l) :
    m.view.readCov L (Rect.unit (s := ⟨2, ![a, b]⟩) ![p, q] (⟨2, ![r, s]⟩ : Shape).size h).toLoadRect (ix2 i l) =
      View.canon L (ix2 i' l') := by
  rw [View.readCov_eq_canon']
  exact congrArg (View.canon L) (unit_emb h i l i' l' hi hl)

/-! ## The values -/

namespace Args

variable (A : Args)

/-- Row `i` of the block. -/
def row (i : Fin 128) : Row := rowOf A.x0 A.x1 A.x2 A.x3 i

/-- The weights. -/
def weights : Weights := weightsOf A.x4 A.x5 A.x6 A.x7 A.x8

theorem hid_apply (k : ℕ) (hk : k < 16) (i l : Fin 128) :
    A.hid k hk (ix2 i l) = Proof.hid (A.row i) ⟨128 * k + l, by omega⟩ := by
  refine (hidTile_apply _ _ i l).trans ?_
  rw [load_apply A.arg3 A.harg3 A.x2 _ i l i ⟨128 * k + l, by omega⟩ (by simp) rfl,
    load_apply A.arg4 A.harg4 A.x3 _ i 0 i ⟨k, hk⟩ (by simp) rfl]
  have : (⟨k, hk⟩ : Fin 16) = ⟨(128 * k + l) / 128, by omega⟩ := Fin.ext (by simp only; omega)
  rw [this]
  rfl

theorem hidLoad_apply (i : Fin 128) (k : Fin 2048) : A.hidLoad (ix2 i k) = Proof.hid (A.row i) k := by
  refine (reload_apply A.arg15 A.hidStores _ i k i k (Nat.zero_add _).symm (Nat.zero_add _).symm).trans ?_
  refine (congrFun (congrArg View.canon A.hidStores_eq) _).trans ?_
  exact canon_downFrom (e := .bf16) (w := 128) (n := 16) rfl A.hid (fun i k => Proof.hid (A.row i) k) (fun k hk => by omega) A.hid_apply i k

theorem w2Block_apply (n : ℕ) (hn : n < 28) (k : ℕ) (hk : k < 16) (i : Fin 128) (l : Fin 256) :
    A.w2Block n hn k hk (ix2 i l) = w2At A.weights ⟨128 * k + i, by omega⟩ ⟨256 * n + l, by omega⟩ := by
  refine (scaled_col_apply _ _ k (2 * n) (2 * n + 1) _ _ ⟨k, hk⟩ ⟨2 * n + l / 128, by omega⟩ rfl i l rfl rfl).trans ?_
  rw [load_apply A.arg5 A.harg5 A.x4 _ i l ⟨128 * k + i, by omega⟩ ⟨256 * n + l, by omega⟩ rfl rfl]
  have h : A.scales2 (ix2 ⟨k, hk⟩ ⟨2 * n + l / 128, by omega⟩) = A.x5 (ix2 ⟨k, hk⟩ ⟨2 * n + l / 128, by omega⟩) :=
    load_apply A.arg6 A.harg6 A.x5 _ _ _ _ _ (Nat.zero_add _).symm (Nat.zero_add _).symm
  have h1 : (⟨k, hk⟩ : Fin 16) = ⟨(128 * k + i) / 128, by omega⟩ := Fin.ext (by simp only; omega)
  have h2 : (⟨2 * n + l / 128, by omega⟩ : Fin 56) = ⟨(256 * n + l) / 128, by omega⟩ := Fin.ext (by simp only; omega)
  rw [h, h1, h2]
  rfl

theorem tile_apply (n : ℕ) (hn : n < 28) (i : Fin 128) (l : Fin 256) :
    A.tile n hn (ix2 i l) = Proof.x1 (A.row i) A.weights ⟨256 * n + l, by omega⟩ := by
  refine (sumTile_apply _ _ _ _ i l).trans ?_
  rw [load_apply A.arg1 A.harg1 A.x0 _ i l i ⟨256 * n + l, by omega⟩ (by simp) rfl,
    load_apply A.arg2 A.harg2 A.x1 _ i l i ⟨256 * n + l, by omega⟩ (by simp) rfl]
  have h : ∀ k : Fin 2048, A.hidLoad (ix2 i k) * stack16 (fun k => A.w2Block n hn k k.isLt) (ix2 k l) =
      Proof.hid (A.row i) k * w2At A.weights k ⟨256 * n + l, by omega⟩ := fun k => by
    rw [hidLoad_apply, stack16_apply, w2Block_apply]
    congr 2
    exact Fin.ext (Nat.div_add_mod _ _)
  simp only [h]
  rfl

theorem sumLoad_apply (r : ℕ) (hr : r < 56) (i l : Fin 128) :
    A.sumLoad r hr (ix2 i l) = Proof.x1 (A.row i) A.weights ⟨128 * r + l, by omega⟩ := by
  refine (reload_apply A.arg14 A.sumStores _ i l i ⟨128 * r + l, by omega⟩ (Nat.zero_add _).symm rfl).trans ?_
  refine (congrFun (congrArg View.canon A.sumStores_eq) _).trans ?_
  refine canon_downFrom (e := .f32) (w := 256) (n := 28) rfl (fun n hn => shapeCast S128x256 (A.tile n hn) shapeCasts_S128x256_S128x256)
    (fun i j => Proof.x1 (A.row i) A.weights j) (fun k hk => by omega) (fun n hn i l => ?_) i _
  rw [shapeCast_self]
  exact A.tile_apply n hn i l

/-- The first result. -/
theorem result1 (i : Fin 128) (j : Fin 7168) : View.canon A.run.1 (ix2 i j) = Proof.x1 (A.row i) A.weights j := by
  refine (congrFun (congrArg View.canon A.sumResult_eq) _).trans ?_
  exact canon_downFrom (e := .bf16) (w := 256) (n := 28) rfl (fun n hn => truncf .bf16 (A.tile n hn) bitsLt_bf16_f32)
    (fun i j => Proof.x1 (A.row i) A.weights j) (fun k hk => by omega) (fun n hn i l => A.tile_apply n hn i l) i j

theorem sums_apply (i : Fin 128) (F : ℕ → EReal) : ∀ (n : ℕ) (f : (k : ℕ) → k < n → FVec Ideal S128x256 .f32)
    (_ : ∀ k (hk : k < n) (l : Fin 256), f k hk (ix2 i l) * f k hk (ix2 i l) = F (256 * k + l)) (l : Fin 128),
    sums n f (ix2 i l) = ∑ k ∈ Finset.range n, (F (256 * k + l) + F (256 * k + 128 + l))
  | 0, _, _, l => hzero
  | n + 1, f, h, l => by
    rw [Finset.sum_range_succ, ← sums_apply i F n (fun k hk => f k (Nat.lt_succ_of_lt hk)) (fun k hk => h k _) l, ← add_assoc]
    refine (squares_apply _ _ i l).trans ?_
    rw [h n _ ⟨l, by omega⟩, h n _ ⟨128 + l, by omega⟩, Nat.add_assoc]
where
  hzero : Ideal.ofBits .f32 0x00000000#32 = 0 := by simp [Ideal.ofBits, Ideal.ieee]

theorem range_mul (F : ℕ → EReal) (m : ℕ) : ∀ n, ∑ k ∈ Finset.range n, ∑ l ∈ Finset.range m, F (m * k + l) = ∑ j ∈ Finset.range (m * n), F j
  | 0 => by simp
  | n + 1 => by rw [Finset.sum_range_succ, range_mul F m n, Nat.mul_succ, Finset.sum_range_add]

theorem den_apply (i : Fin 128) : A.den (ix2 i 0) = Proof.den (A.row i) A.weights := by
  let F : ℕ → EReal := fun j => if h : j < 7168 then Proof.x1 (A.row i) A.weights ⟨j, h⟩ * Proof.x1 (A.row i) A.weights ⟨j, h⟩ else 0
  have hF : ∀ k (hk : k < 28) (l : Fin 256), A.tile k hk (ix2 i l) * A.tile k hk (ix2 i l) = F (256 * k + l) := fun k hk l => by
    rw [tile_apply]
    show _ = dite _ _ _
    rw [dif_pos (by omega : 256 * k + (l : ℕ) < 7168)]
  rw [den_eq, rms_apply]
  unfold Proof.den
  congr 3
  rw [Finset.sum_congr rfl fun l _ => sums_apply i F 28 A.tile hF l, Finset.sum_comm]
  have h1 : ∀ k, ∑ l : Fin 128, (F (256 * k + l) + F (256 * k + 128 + l)) = ∑ l ∈ Finset.range 256, F (256 * k + l) := fun k => by
    rw [Finset.sum_add_distrib, show 256 = 128 + 128 from rfl, Finset.sum_range_add, Finset.sum_range, Finset.sum_range]
    simp only [Nat.add_assoc]
  rw [Finset.sum_congr rfl fun k _ => h1 k, range_mul F 256 28, Finset.sum_range]
  exact Finset.sum_congr rfl fun j _ => dif_pos j.isLt

theorem normed_apply (r : ℕ) (hr : r < 56) (i l : Fin 128) :
    A.normed r hr (ix2 i l) = Proof.norm (A.row i) A.weights ⟨128 * r + l, by omega⟩ := by
  refine (normRun_apply _ _ _ i l).trans ?_
  rw [sumLoad_apply, den_apply, load_apply A.arg7 A.harg7 A.x6 _ 0 l 0 ⟨128 * r + l, by omega⟩ rfl rfl]
  rfl

theorem amax_apply (r : ℕ) (hr : r < 56) (i : Fin 128) :
    amaxRun (A.normed r hr) (ix2 i 0) = Proof.amax (A.row i) A.weights ⟨r, hr⟩ := by
  rw [amaxRun_apply, show Ideal.ofBits .f32 0xFF800000#32 = ⊥ by simp [Ideal.ofBits, Ideal.ieee, -EReal.coe_mul]]
  simp only [normed_apply]
  rfl

/-! What follows asks that no run is too great for a scale. -/

variable (hb : ∀ i r, Proof.amax (A.row i) A.weights r < p2 253)
include hb

theorem scaleRun_eq (r : ℕ) (hr : r < 56) (i : Fin 128) :
    scaleRun (amaxRun (A.normed r hr)) (ix2 i 0) = Proof.scale (A.row i) A.weights ⟨r, hr⟩ := by
  have h := A.amax_apply r hr i
  rw [scaleRun_apply _ _ (h ▸ hb _ _), h]
  rfl

theorem codeRun_eq (r : ℕ) (hr : r < 56) (i l : Fin 128) :
    codeRun (A.normed r hr) (ix2 i l) = Proof.code (A.row i) A.weights ⟨128 * r + l, by omega⟩ := by
  have h := A.amax_apply r hr i
  rw [codeRun_apply _ _ _ (h ▸ hb _ _), h, normed_apply]
  have : (⟨r, hr⟩ : Fin 56) = ⟨(128 * r + l) / 128, by omega⟩ := Fin.ext (by simp only; omega)
  rw [this]
  rfl

theorem actRun_eq (r : ℕ) (hr : r < 56) (i l : Fin 128) :
    actRun (A.normed r hr) (ix2 i l) = Proof.act (A.row i) A.weights ⟨128 * r + l, by omega⟩ := by
  rw [actRun_apply, A.codeRun_eq hb, A.scaleRun_eq hb]
  have : (⟨r, hr⟩ : Fin 56) = ⟨(128 * r + l) / 128, by omega⟩ := Fin.ext (by simp only; omega)
  rw [this]
  rfl

/-- The codes. -/
theorem result3 (i : Fin 128) (j : Fin 7168) : View.canon A.run.2.2.1 (ix2 i j) = Proof.code (A.row i) A.weights j := by
  refine (congrFun (congrArg View.canon A.codes_eq) _).trans ?_
  exact canon_downFrom (e := .fp8e4m3) (w := 128) (n := 56) rfl (fun r hr => codeRun (A.normed r hr))
    (fun i j => Proof.code (A.row i) A.weights j) (fun k hk => by omega) (A.codeRun_eq hb) i j

/-- The scales. -/
theorem result4 (i : Fin 128) (r : Fin 56) : View.canon A.run.2.2.2.1 (ix2 i r) = Proof.scale (A.row i) A.weights r := by
  refine (congrFun (congrArg View.canon A.scales_eq) _).trans ?_
  refine canon_strips (e := .f32) (a := 128) (b := 56) _ (fun i r => Proof.scale (A.row i) A.weights r) (fun p hp => ?_) i r ?_
  · rw [List.mem_singleton] at hp
    refine ⟨56, 0, le_rfl, beside fun r => scaleRun (amaxRun (A.normed r r.isLt)), hp, fun i l => ?_⟩
    rw [beside_apply, A.scaleRun_eq hb]
    congr 1
    exact Fin.ext (Nat.zero_add _).symm
  · exact ⟨56, 0, le_rfl, _, List.mem_singleton.2 rfl, Nat.zero_le _, by omega⟩

theorem actLoad_apply (i : Fin 128) (j : Fin 7168) : A.actLoad (ix2 i j) = Proof.act (A.row i) A.weights j := by
  refine (reload_apply A.arg16 A.actStores _ i j i j (Nat.zero_add _).symm (Nat.zero_add _).symm).trans ?_
  refine (congrFun (congrArg View.canon A.actStores_eq) _).trans ?_
  exact canon_downFrom (e := .bf16) (w := 128) (n := 56) rfl (fun r hr => actRun (A.normed r hr))
    (fun i j => Proof.act (A.row i) A.weights j) (fun k hk => by omega) (A.actRun_eq hb) i j

omit hb in
theorem wqBlock_apply (n : ℕ) (hn : n < 8) (k : ℕ) (hk : k < 56) (i : Fin 128) (l : Fin 256) :
    A.wqBlock n hn k hk (ix2 i l) = wqAt A.weights ⟨128 * k + i, by omega⟩ ⟨256 * n + l, by omega⟩ := by
  refine (scaled_col_apply _ _ k (2 * n) (2 * n + 1) _ _ ⟨k, hk⟩ ⟨2 * n + l / 128, by omega⟩ rfl i l rfl rfl).trans ?_
  rw [load_apply A.arg8 A.harg8 A.x7 _ i l ⟨128 * k + i, by omega⟩ ⟨256 * n + l, by omega⟩ rfl rfl]
  have h : A.scalesQ (ix2 ⟨k, hk⟩ ⟨2 * n + l / 128, by omega⟩) = A.x8 (ix2 ⟨k, hk⟩ ⟨2 * n + l / 128, by omega⟩) :=
    load_apply A.arg9 A.harg9 A.x8 _ _ _ _ _ (Nat.zero_add _).symm (Nat.zero_add _).symm
  have h1 : (⟨k, hk⟩ : Fin 56) = ⟨(128 * k + i) / 128, by omega⟩ := Fin.ext (by simp only; omega)
  have h2 : (⟨2 * n + l / 128, by omega⟩ : Fin 17) = ⟨(256 * n + l) / 128, by omega⟩ := Fin.ext (by simp only; omega)
  rw [h, h1, h2]
  rfl

omit hb in
theorem wqLast_apply (k : ℕ) (hk : k < 56) (i : Fin 128) (l : Fin 64) :
    A.wqLast k hk (ix2 i l) = wqAt A.weights ⟨128 * k + i, by omega⟩ ⟨2048 + l, by omega⟩ := by
  refine (scaledLast_apply _ _ k _ ⟨k, hk⟩ rfl i l).trans ?_
  rw [load_apply A.arg8 A.harg8 A.x7 _ i l ⟨128 * k + i, by omega⟩ ⟨2048 + l, by omega⟩ rfl rfl]
  have h : A.scalesQ (ix2 ⟨k, hk⟩ 16) = A.x8 (ix2 ⟨k, hk⟩ 16) :=
    load_apply A.arg9 A.harg9 A.x8 _ _ _ _ _ (Nat.zero_add _).symm (Nat.zero_add _).symm
  have h1 : (⟨k, hk⟩ : Fin 56) = ⟨(128 * k + i) / 128, by omega⟩ := Fin.ext (by simp only; omega)
  have h2 : (16 : Fin 17) = ⟨(2048 + l) / 128, by omega⟩ := Fin.ext (by show 16 = (2048 + (l : ℕ)) / 128; omega)
  rw [h, h1, h2]
  rfl

theorem outTile_eq (n : ℕ) (hn : n < 8) (i : Fin 128) (l : Fin 256) :
    outTile A.actLoad (stack56 fun k => A.wqBlock n hn k k.isLt) (ix2 i l) = Proof.qkv (A.row i) A.weights ⟨256 * n + l, by omega⟩ := by
  refine (outTile_apply _ _ i l).trans (Finset.sum_congr rfl fun k _ => ?_)
  rw [A.actLoad_apply hb, stack56_apply, wqBlock_apply]
  congr 2
  exact Fin.ext (Nat.div_add_mod _ _)

theorem outLast_eq (i : Fin 128) (l : Fin 64) :
    outLast A.actLoad (stackLast fun k => A.wqLast k k.isLt) (ix2 i l) = Proof.qkv (A.row i) A.weights ⟨2048 + l, by omega⟩ := by
  refine (outLast_apply _ _ i l).trans (Finset.sum_congr rfl fun k _ => ?_)
  rw [A.actLoad_apply hb, stackLast_apply, wqLast_apply]
  congr 2
  exact Fin.ext (Nat.div_add_mod _ _)

/-- The second product. -/
theorem result2 (i : Fin 128) (n : Fin 2112) : View.canon A.run.2.1 (ix2 i n) = Proof.qkv (A.row i) A.weights n := by
  refine (congrFun (congrArg View.canon A.qkv_eq) _).trans ?_
  refine canon_strips (e := .bf16) (a := 128) (b := 2112) _ (fun i n => Proof.qkv (A.row i) A.weights n) (fun p hp => ?_) i n ?_
  · rcases List.mem_cons.1 hp with rfl | hp
    · exact ⟨64, 2048, by omega, _, rfl, A.outLast_eq hb⟩
    · obtain ⟨k, hk, rfl⟩ := mem_downFrom.1 hp
      exact ⟨256, 256 * k, by omega, _, rfl, A.outTile_eq hb k hk⟩
  · by_cases h : (n : ℕ) < 2048
    · exact ⟨256, 256 * (n / 256), by omega, _, List.mem_cons_of_mem _ (mem_downFrom.2 ⟨n / 256, by omega, rfl⟩), by omega, by omega⟩
    · exact ⟨64, 2048, by omega, _, List.mem_cons_self, by omega, by omega⟩

end Args

end Cert.Proof.Words
-- ==== Proof.Bounds.lean ====
/-
A run's greatest magnitude over 448 stays below `2 ^ 126` when the gain is finite.
-/
module

public import proofs.«01_k».proof.Proof.Spec
public import Mathlib.Tactic.NormNum
public import Mathlib.Tactic.Positivity
public import Mathlib.Tactic.Linarith

@[expose] public section

noncomputable section

namespace Cert.Proof

open Idealize.ShloMosaic
open scoped BigOperators

/-- A positive normal f32 word's value, from its fields. -/
theorem ofBits_normal (b : BitVec 32) (ex fr : ℕ) (h1 : (b.extractLsb' 23 8).toNat = ex) (h2 : (b.extractLsb' 0 23).toNat = fr)
    (h3 : (b.extractLsb' (8 + 23) 1 == 1#1) = false) (h4 : ex ≠ 255) (h5 : ex ≠ 0) :
    Ideal.ofBits .f32 b = (((2 ^ 23 + fr : ℕ) * (2 : ℝ) ^ ((ex : ℤ) - 127 - 23) : ℝ) : EReal) := by
  show Ideal.ieee 8 23 b = _
  unfold Ideal.ieee
  simp only [h1, h2, h3]
  rw [if_neg (by omega), if_neg h5]
  norm_num

theorem word7168 : Ideal.ofBits .f32 0x45E00000#32 = ((7168 : ℝ) : EReal) := by
  rw [ofBits_normal _ 139 6291456 (by decide) (by decide) (by decide) (by decide) (by decide)]
  norm_num

theorem wordEps : ∃ e : ℝ, 0 < e ∧ Ideal.ofBits .f32 0x358637BD#32 = (e : EReal) := by
  refine ⟨_, ?_, ofBits_normal _ 107 407485 (by decide) (by decide) (by decide) (by decide) (by decide)⟩
  positivity

theorem word448 : ∃ c : ℝ, 0 < c ∧ c * 340 < 1 ∧ Ideal.ofBits .f32 0x3B124925#32 = (c : EReal) := by
  refine ⟨_, ?_, ?_, ofBits_normal _ 118 1198373 (by decide) (by decide) (by decide) (by decide) (by decide)⟩
  · positivity
  · norm_num

theorem wordMax : ∃ M : ℝ, M ≤ 2 ^ 128 ∧ Ideal.ofBits .f32 0x7F7FFFFF#32 = (M : EReal) := by
  refine ⟨_, ?_, ofBits_normal _ 254 8388607 (by decide) (by decide) (by decide) (by decide) (by decide)⟩
  norm_num

theorem square_nonneg (v : EReal) : 0 ≤ v * v := by
  induction v with
  | bot => simp
  | top => simp
  | coe r => exact_mod_cast mul_self_nonneg r

theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- A value over the root mean square of values it is among is at most the root of their number. -/
theorem ratio_bound (v : Fin 7168 → EReal) (e : ℝ) (he : 0 < e) (j : Fin 7168) :
    ∃ q : ℝ, |q| ≤ 85 ∧
      Ideal.div (v j) (Ideal.sqrt (Ideal.div (∑ j, v j * v j) ((7168 : ℝ) : EReal) + (e : EReal))) = (q : EReal) := by
  by_cases hS : ∑ j, v j * v j = ⊤
  · refine ⟨0, by simp, ?_⟩
    have h7 : ((7168 : ℝ) : EReal) ≠ 0 := by norm_num
    have : Ideal.div (⊤ : EReal) ((7168 : ℝ) : EReal) = ⊤ := by
      rw [div_of_ne h7, ← EReal.coe_inv]
      exact EReal.top_mul_coe_of_pos (by norm_num)
    rw [hS, this, EReal.top_add_coe]
    show Ideal.div (v j) ⊤ = _
    rw [div_of_ne (by simp)]
    simp
  · have hle : ∀ k, v k * v k ≤ ∑ j, v j * v j := fun k =>
      Finset.single_le_sum (f := fun j => v j * v j) (fun j _ => square_nonneg _) (Finset.mem_univ k)
    have hr : ∀ k, ∃ r : ℝ, v k = (r : EReal) := fun k => by
      have h := hle k
      revert h
      induction v k with
      | bot => intro h; exact absurd (top_le_iff.1 (by simpa using h)) hS
      | top => intro h; exact absurd (top_le_iff.1 (by simpa using h)) hS
      | coe r => exact fun _ => ⟨r, rfl⟩
    choose r hr using hr
    have hsum : ∑ j, v j * v j = ((∑ j, r j * r j : ℝ) : EReal) := by
      rw [coe_sum]
      exact Finset.sum_congr rfl fun k _ => by rw [hr k, EReal.coe_mul]
    have hjs : r j * r j ≤ ∑ j, r j * r j :=
      Finset.single_le_sum (f := fun j => r j * r j) (fun j _ => mul_self_nonneg _) (Finset.mem_univ j)
    rw [hsum, hr j]
    revert hjs
    generalize ∑ j, r j * r j = s
    generalize r j = x
    intro hjs
    have hs0 : 0 ≤ s := le_trans (mul_self_nonneg _) hjs
    have hd : 0 < s / 7168 + e := by positivity
    refine ⟨x / Real.sqrt (s / 7168 + e), ?_, ?_⟩
    · rw [abs_div, abs_of_pos (Real.sqrt_pos.2 hd), div_le_iff₀ (Real.sqrt_pos.2 hd)]
      refine abs_le_of_sq_le_sq ?_ (by positivity)
      rw [mul_pow, Real.sq_sqrt hd.le]
      nlinarith
    · have h7 : Ideal.div (s : EReal) ((7168 : ℝ) : EReal) = ((s / 7168 : ℝ) : EReal) := by
        rw [div_of_ne (by norm_num), ← EReal.coe_inv, ← EReal.coe_mul, div_eq_mul_inv]
      have hq : Ideal.sqrt ((s / 7168 + e : ℝ) : EReal) = (Real.sqrt (s / 7168 + e) : EReal) :=
        if_neg (not_lt.2 hd.le)
      rw [h7, ← EReal.coe_add, hq, div_of_ne (by exact_mod_cast (Real.sqrt_pos.2 hd).ne'), ← EReal.coe_inv, ← EReal.coe_mul]
      exact congrArg _ (div_eq_mul_inv _ _).symm

/-- No run is too great for a scale. -/
theorem amax_lt (R : Row) (W : Weights) (hg : ∀ j, max (W.gain j) (-W.gain j) ≤ Ideal.ofBits .f32 0x7F7FFFFF#32) (r : Fin 56) :
    amax R W r < p2 253 := by
  obtain ⟨e, he, hE⟩ := wordEps
  obtain ⟨c, hc0, hc, hC⟩ := word448
  obtain ⟨M, hM, hMw⟩ := wordMax
  have hn : ∀ j, max (norm R W j) (-norm R W j) ≤ ((85 * 2 ^ 128 : ℝ) : EReal) := fun j => by
    obtain ⟨q, hq, hQ⟩ := ratio_bound (x1 R W) e he j
    have hg := hg j
    rw [hMw] at hg
    unfold norm den
    rw [word7168, hE, hQ]
    revert hg
    induction W.gain j with
    | bot => intro h; exact absurd (top_le_iff.1 (by simpa using h)) (EReal.coe_ne_top M)
    | top => intro h; exact absurd (top_le_iff.1 (by simpa using h)) (EReal.coe_ne_top M)
    | coe g =>
      intro h
      have hg' : |g| ≤ 2 ^ 128 := by
        refine le_trans ?_ hM
        have h1 := le_trans (le_max_left _ _) h
        have h2 := le_trans (le_max_right _ _) h
        rw [← EReal.coe_neg] at h2
        exact abs_le'.2 ⟨EReal.coe_le_coe_iff.1 h1, EReal.coe_le_coe_iff.1 h2⟩
      have hqg : |q * g| ≤ 85 * 2 ^ 128 := by
        rw [abs_mul]
        exact mul_le_mul hq hg' (abs_nonneg _) (by norm_num)
      rw [← EReal.coe_mul, ← EReal.coe_neg]
      exact max_le (EReal.coe_le_coe_iff.2 (abs_le'.1 hqg).1) (EReal.coe_le_coe_iff.2 (abs_le'.1 hqg).2)
  have hf : Finset.univ.fold max ⊥ (fun l : Fin 128 => max (norm R W ⟨128 * r + l, by omega⟩) (-norm R W ⟨128 * r + l, by omega⟩))
      ≤ ((85 * 2 ^ 128 : ℝ) : EReal) := (Finset.fold_max_le _).2 ⟨bot_le, fun l _ => hn _⟩
  unfold amax
  rw [hC]
  refine lt_of_le_of_lt (mul_le_mul_of_nonneg_right hf (by exact_mod_cast hc0.le)) ?_
  rw [← EReal.coe_mul]
  unfold p2
  rw [EReal.coe_lt_coe_iff, show (((253 : ℕ) : ℤ) - 127) = ((126 : ℕ) : ℤ) by norm_num, zpow_natCast]
  nlinarith

end Cert.Proof
-- ==== Proof.Results.lean ====
/- The four result arrays as functions of the nine argument arrays (`Inputs.result1` to `result4`): row by row, the values
   of `Spec`. Both programs are shown to compute these. -/
module

public import proofs.«01_k».proof.Proof.Bounds

@[expose] public section

noncomputable section

namespace Cert.Proof

open Idealize.ShloMosaic

/-- The argument arrays, in the order in which both programs take them. -/
structure Inputs where
  x : Mat 4096 7168
  routed : Mat 4096 7168
  h : Mat 4096 2048
  hs : Mat 4096 16
  w2 : Mat 2048 7168
  s2 : Mat 16 56
  gain : (⟨1, ![7168]⟩ : Shape).Idx → EReal
  wq : Mat 7168 2112
  sq : Mat 56 17

namespace Inputs

variable (I : Inputs)

/-- The gain as a matrix of one row, the form in which the programs read it. -/
def gainRow : Mat 1 7168 := fun y => I.gain (ix1 (y 1))

/-- Row `i` of the activations. -/
def row (i : Fin 4096) : Row := rowOf I.x I.routed I.h I.hs i

/-- The weights. -/
def weights : Weights := weightsOf I.w2 I.s2 I.gainRow I.wq I.sq

/-- The residual sum. -/
def result1 : Mat 4096 7168 := fun y => x1 (I.row (y 0)) I.weights (y 1)

/-- The product with the second weight. -/
def result2 : Mat 4096 2112 := fun y => qkv (I.row (y 0)) I.weights (y 1)

/-- The codes of the normalised rows. -/
def result3 : Mat 4096 7168 := fun y => code (I.row (y 0)) I.weights (y 1)

/-- The scales of the normalised rows. -/
def result4 : Mat 4096 56 := fun y => scale (I.row (y 0)) I.weights (y 1)

/-- The precondition: no gain exceeds the largest finite number of its format. -/
def GainFinite : Prop := ∀ j, max (I.gain (ix1 j)) (-I.gain (ix1 j)) ≤ Ideal.ofBits .f32 0x7F7FFFFF#32

/-- Then the scale that is asked of the quantiser is within reach. -/
theorem amax_lt (hg : I.GainFinite) (i : Fin 4096) (r : Fin 56) : amax (I.row i) I.weights r < p2 253 :=
  Proof.amax_lt (I.row i) I.weights hg r

end Inputs

end Cert.Proof
-- ==== Proof.Arrays.lean ====
/- The kernel's four result arrays (`array1` to `array4`): what `Values` shows of one block of 128 rows, at every grid
   point. Each block of rows of an argument array is those rows of it (`block0` to `block3`); the weights are read whole
   (`block4` to `block8`). -/
module

public import proofs.«01_k».proof.Proof.Values
public import proofs.«01_k».proof.Proof.Results
public import proofs.«01_k».proof.Proof.Gen.KernelIdeal.Value
public import Idealize.ShloMosaic.Lib.Pipeline.ValueKit

@[expose] public section

-- recurses once per coordinate of the long axes
set_option maxRecDepth 16384

noncomputable section

namespace Cert.Proof.Arrays

open Idealize.ShloMosaic Idealize.ShloMosaic.TcCoe Idealize.ShloMosaic.Tactic
open Cert.KernelIdeal Cert.KernelIdeal.Gen
open Cert.Proof.Words

variable (m : (ℓ : Loc nD τ sig) → Buf (Elt Ideal) ℓ) (c : Dev nD)

/-- The kernel's argument arrays. -/
def inputs : Inputs where
  x := m ((c : Thread nD τ).loc main_arg0)
  routed := m ((c : Thread nD τ).loc main_arg1)
  h := m ((c : Thread nD τ).loc main_arg2)
  hs := m ((c : Thread nD τ).loc main_arg3)
  w2 := m ((c : Thread nD τ).loc main_arg4)
  s2 := m ((c : Thread nD τ).loc main_arg5)
  gain := m ((c : Thread nD τ).loc main_arg6)
  wq := m ((c : Thread nD τ).loc main_arg7)
  sq := m ((c : Thread nD τ).loc main_arg8)

/-! ## Where the blocks lie -/

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)
theorem index11 : ∀ t : Fin cfg0.N, win0_11.index t = ![t.val, 0] := (by decide +kernel : ∀ t : Fin grid0.N, _)
theorem index12 : ∀ t : Fin cfg0.N, win0_12.index t = ![t.val, 0] := (by decide +kernel : ∀ t : Fin grid0.N, _)

/-- Row `i` of the block of grid point `t`, as a row of the whole array. -/
def rowAt (t : Fin cfg0.N) (i : Fin 128) : Fin 4096 :=
  ⟨t.val * 128 + i.val, by have h : t.val < 32 := lt_of_lt_of_eq t.isLt (by decide +kernel); omega⟩

theorem block0 (t : Fin cfg0.N) (i : Fin 128) (j : Fin 7168) :
    (iblk m c 0 t : Mat 128 7168) (ix2 i j) = (m ((c : Thread nD τ).loc main_arg0) : Mat 4096 7168) (ix2 (rowAt t i) j) := by
  rw [← V_main_arg0 m c]
  blk_simp [iblk]
  refine congrArg (V m c main_arg0) ?_
  blk_ext [index0 t, rowAt]

theorem block1 (t : Fin cfg0.N) (i : Fin 128) (j : Fin 7168) :
    (iblk m c 1 t : Mat 128 7168) (ix2 i j) = (m ((c : Thread nD τ).loc main_arg1) : Mat 4096 7168) (ix2 (rowAt t i) j) := by
  rw [← V_main_arg1 m c]
  blk_simp [iblk]
  refine congrArg (V m c main_arg1) ?_
  blk_ext [index1 t, rowAt]

theorem block2 (t : Fin cfg0.N) (i : Fin 128) (j : Fin 2048) :
    (iblk m c 2 t : Mat 128 2048) (ix2 i j) = (m ((c : Thread nD τ).loc main_arg2) : Mat 4096 2048) (ix2 (rowAt t i) j) := by
  rw [← V_main_arg2 m c]
  blk_simp [iblk]
  refine congrArg (V m c main_arg2) ?_
  blk_ext [index2 t, rowAt]

theorem block3 (t : Fin cfg0.N) (i : Fin 128) (j : Fin 16) :
    (iblk m c 3 t : Mat 128 16) (ix2 i j) = (m ((c : Thread nD τ).loc main_arg3) : Mat 4096 16) (ix2 (rowAt t i) j) := by
  rw [← V_main_arg3 m c]
  blk_simp [iblk]
  refine congrArg (V m c main_arg3) ?_
  blk_ext [index3 t, rowAt]

theorem block4 (t : Fin cfg0.N) : (iblk m c 4 t : Mat 2048 7168) = m ((c : Thread nD τ).loc main_arg4) := by
  funext y
  rw [← V_main_arg4 m c]
  blk_simp [iblk]
  refine congrArg (V m c main_arg4) ?_
  blk_ext [index4 t]

theorem block5 (t : Fin cfg0.N) : (iblk m c 5 t : Mat 16 56) = m ((c : Thread nD τ).loc main_arg5) := by
  funext y
  rw [← V_main_arg5 m c]
  blk_simp [iblk]
  refine congrArg (V m c main_arg5) ?_
  blk_ext [index5 t]

theorem block7 (t : Fin cfg0.N) : (iblk m c 7 t : Mat 7168 2112) = m ((c : Thread nD τ).loc main_arg7) := by
  funext y
  rw [← V_main_arg7 m c]
  blk_simp [iblk]
  refine congrArg (V m c main_arg7) ?_
  blk_ext [index7 t]

theorem block8 (t : Fin cfg0.N) : (iblk m c 8 t : Mat 56 17) = m ((c : Thread nD τ).loc main_arg8) := by
  funext y
  rw [← V_main_arg8 m c]
  blk_simp [iblk]
  refine congrArg (V m c main_arg8) ?_
  blk_ext [index8 t]

/-- The gain, which the program makes a matrix of one row before the grid. -/
theorem V_gain (y : S1x7168.Idx) : V m c main_v0 y = (inputs m c).gainRow y := by
  show broadcastInDim S1x7168 ![1] bcast_S7168_S1x7168_1 (m ((c : Thread nD τ).loc main_arg6)) y = _
  unfold Inputs.gainRow inputs
  pointwise

theorem block6 (t : Fin cfg0.N) : (iblk m c 6 t : Mat 1 7168) = (inputs m c).gainRow := by
  funext y
  rw [← V_gain m c]
  blk_simp [iblk]
  refine congrArg (V m c main_v0) ?_
  blk_ext [index6 t]

/-! ## One grid point -/

/-- What the body is given at a grid point. -/
def args (t : Fin cfg0.N) : Args :=
  ⟨c, grid0.coords t, ms0_0 t, hs0_0 t, ms0_1 t, hs0_1 t, ms0_2 t, hs0_2 t, ms0_3 t, hs0_3 t, ms0_4 t, hs0_4 t, ms0_5 t,
    hs0_5 t, ms0_6 t, hs0_6 t, ms0_7 t, hs0_7 t, ms0_8 t, hs0_8 t, ms0_9 t, hs0_9 t, ms0_10 t, hs0_10 t, ms0_11 t, hs0_11 t,
    ms0_12 t, hs0_12 t, scM0_0, Memref.isWhole_whole _, scM0_1, Memref.isWhole_whole _, scM0_2, Memref.isWhole_whole _,
    iblk m c 0 t, iblk m c 1 t, iblk m c 2 t, iblk m c 3 t, iblk m c 4 t, iblk m c 5 t, iblk m c 6 t, iblk m c 7 t,
    iblk m c 8 t⟩

theorem args_row (t : Fin cfg0.N) (i : Fin 128) : (args m c t).row i = (inputs m c).row (rowAt t i) := by
  show Row.mk (fun j => (iblk m c 0 t : Mat 128 7168) (ix2 i j)) (fun j => (iblk m c 1 t : Mat 128 7168) (ix2 i j))
    (fun k => (iblk m c 2 t : Mat 128 2048) (ix2 i k)) (fun k => (iblk m c 3 t : Mat 128 16) (ix2 i k)) = _
  simp only [block0, block1, block2, block3]
  rfl

theorem args_weights (t : Fin cfg0.N) : (args m c t).weights = (inputs m c).weights := by
  show weightsOf (iblk m c 4 t : Mat 2048 7168) (iblk m c 5 t : Mat 16 56) (iblk m c 6 t : Mat 1 7168)
    (iblk m c 7 t : Mat 7168 2112) (iblk m c 8 t : Mat 56 17) = _
  rw [block4, block5, block6, block7, block8]
  rfl

theorem args_amax (hg : (inputs m c).GainFinite) (t : Fin cfg0.N) (i : Fin 128) (r : Fin 56) :
    amax ((args m c t).row i) (args m c t).weights r < p2 253 := by
  rw [args_row, args_weights]
  exact (inputs m c).amax_lt hg _ r

/-! ## The arrays -/

theorem outs1 (t : Fin cfg0.N) : (outsAt0 m c t).1 = View.canon (args m c t).run.1 :=
  Eq.trans (b := VO0_9.read (Elt Ideal) (VO0_9.writes (Elt Ideal) VO0_9.junk (args m c t).run.1)) (by sl_kernel_rfl)
    (View.read_writes_junk_eq_canon VO0_9 _)

theorem point1 (t : Fin cfg0.N) (i : Fin 128) (j : Fin 7168) :
    (outsAt0 m c t).1 (ix2 i j) = x1 ((inputs m c).row (rowAt t i)) (inputs m c).weights j := by
  rw [outs1, Args.result1 (args m c t), args_row, args_weights]

theorem array1 : ((dats m 0 c).arrAt 9 cfg0.N : Mat 4096 7168) = (inputs m c).result1 := by
  refine (dats m 0 c).arrAt_eq_of_covers 9 _ (by decide +kernel) fun t hf y => ?_
  blk_simp
  rw [after0_9]
  refine (congrArg (outsAt0 m c t).1 (Words.eta y)).trans ((point1 m c t (y 0) (y 1)).trans ?_)
  refine congrArg₂ (fun i j => x1 ((inputs m c).row i) (inputs m c).weights j) ?_ ?_ <;>
    apply Fin.ext <;> blk_simp [index9 t, rowAt]

theorem outs2 (t : Fin cfg0.N) : (outsAt0 m c t).2.1 = View.canon (args m c t).run.2.1 :=
  Eq.trans (b := VO0_10.read (Elt Ideal) (VO0_10.writes (Elt Ideal) VO0_10.junk (args m c t).run.2.1)) (by sl_kernel_rfl)
    (View.read_writes_junk_eq_canon VO0_10 _)

theorem point2 (hg : (inputs m c).GainFinite) (t : Fin cfg0.N) (i : Fin 128) (j : Fin 2112) :
    (outsAt0 m c t).2.1 (ix2 i j) = qkv ((inputs m c).row (rowAt t i)) (inputs m c).weights j := by
  rw [outs2, Args.result2 (args m c t) (args_amax m c hg t), args_row, args_weights]

theorem array2 (hg : (inputs m c).GainFinite) : ((dats m 0 c).arrAt 10 cfg0.N : Mat 4096 2112) = (inputs m c).result2 := by
  refine (dats m 0 c).arrAt_eq_of_covers 10 _ (by decide +kernel) fun t hf y => ?_
  blk_simp
  rw [after0_10]
  refine (congrArg (outsAt0 m c t).2.1 (Words.eta y)).trans ((point2 m c hg t (y 0) (y 1)).trans ?_)
  refine congrArg₂ (fun i j => qkv ((inputs m c).row i) (inputs m c).weights j) ?_ ?_ <;>
    apply Fin.ext <;> blk_simp [index10 t, rowAt]

theorem outs3 (t : Fin cfg0.N) : (outsAt0 m c t).2.2.1 = View.canon (args m c t).run.2.2.1 :=
  Eq.trans (b := VO0_11.read (Elt Ideal) (VO0_11.writes (Elt Ideal) VO0_11.junk (args m c t).run.2.2.1)) (by sl_kernel_rfl)
    (View.read_writes_junk_eq_canon VO0_11 _)

theorem point3 (hg : (inputs m c).GainFinite) (t : Fin cfg0.N) (i : Fin 128) (j : Fin 7168) :
    (outsAt0 m c t).2.2.1 (ix2 i j) = code ((inputs m c).row (rowAt t i)) (inputs m c).weights j := by
  rw [outs3, Args.result3 (args m c t) (args_amax m c hg t), args_row, args_weights]

theorem array3 (hg : (inputs m c).GainFinite) : ((dats m 0 c).arrAt 11 cfg0.N : Mat 4096 7168) = (inputs m c).result3 := by
  refine (dats m 0 c).arrAt_eq_of_covers 11 _ (by decide +kernel) fun t hf y => ?_
  blk_simp
  rw [after0_11]
  refine (congrArg (outsAt0 m c t).2.2.1 (Words.eta y)).trans ((point3 m c hg t (y 0) (y 1)).trans ?_)
  refine congrArg₂ (fun i j => code ((inputs m c).row i) (inputs m c).weights j) ?_ ?_ <;>
    apply Fin.ext <;> blk_simp [index11 t, rowAt]

theorem outs4 (t : Fin cfg0.N) : (outsAt0 m c t).2.2.2 = View.canon (args m c t).run.2.2.2.1 :=
  Eq.trans (b := VO0_12.read (Elt Ideal) (VO0_12.writes (Elt Ideal) VO0_12.junk (args m c t).run.2.2.2.1)) (by sl_kernel_rfl)
    (View.read_writes_junk_eq_canon VO0_12 _)

theorem point4 (hg : (inputs m c).GainFinite) (t : Fin cfg0.N) (i : Fin 128) (j : Fin 56) :
    (outsAt0 m c t).2.2.2 (ix2 i j) = scale ((inputs m c).row (rowAt t i)) (inputs m c).weights j := by
  rw [outs4, Args.result4 (args m c t) (args_amax m c hg t), args_row, args_weights]

theorem array4 (hg : (inputs m c).GainFinite) : ((dats m 0 c).arrAt 12 cfg0.N : Mat 4096 56) = (inputs m c).result4 := by
  refine (dats m 0 c).arrAt_eq_of_covers 12 _ (by decide +kernel) fun t hf y => ?_
  blk_simp
  rw [after0_12]
  refine (congrArg (outsAt0 m c t).2.2.2 (Words.eta y)).trans ((point4 m c hg t (y 0) (y 1)).trans ?_)
  refine congrArg₂ (fun i j => scale ((inputs m c).row i) (inputs m c).weights j) ?_ ?_ <;>
    apply Fin.ext <;> blk_simp [index12 t, rowAt]

end Cert.Proof.Arrays
-- ==== Proof.Reference.lean ====
/-
What the reference's results hold at an index.
-/
module

public import proofs.«01_k».proof.Proof.Spec
public import proofs.«01_k».proof.Proof.Gen.ReferenceIdeal.Skeleton

@[expose] public section

set_option maxRecDepth 16384

noncomputable section

namespace Cert.Proof.Reference

open Idealize.ShloMosaic
open Cert.ReferenceIdeal Cert.ReferenceIdeal.Gen

variable (x0 : FVec Ideal S4096x7168 .bf16) (x1 : FVec Ideal S4096x7168 .f32) (x2 : FVec Ideal S4096x2048 .fp8e4m3)
  (x3 : FVec Ideal S4096x16 .f32) (x4 : FVec Ideal S2048x7168 .fp8e4m3) (x5 : FVec Ideal S16x56 .f32)
  (x6 : FVec Ideal S1x7168 .f32) (x7 : FVec Ideal S7168x2112 .fp8e4m3) (x8 : FVec Ideal S56x17 .f32)

/-- The residual sum. -/
theorem pay2_apply (i : Fin 4096) (j : Fin 7168) :
    k0_pay2 (F := Ideal) x2 x3 x4 x5 x0 x1 (ix2 i j) = Proof.x1 (rowOf x0 x1 x2 x3 i) (weightsOf x4 x5 x6 x7 x8) j := by
  pointwise [k0_pay2]
  rfl

theorem sumSq_apply (v : FVec Ideal S4096x7168 .f32) (i : Fin 4096) :
    multiReduction .add [1] S4096 (mulf v v) 0x00000000#32 reduces_S4096x7168_S4096 (.inl rfl) rfl (ix1 i) =
      ∑ j : Fin 7168, v (ix2 i j) * v (ix2 i j) := by
  pointwise

theorem norm_apply (v : FVec Ideal S4096x7168 .f32) (s : FVec Ideal S4096 .f32) (g : FVec Ideal S1x7168 .f32)
    (i : Fin 4096) (r : Fin 56) (l : Fin 128) :
    shapeCast S4096x56x128
        (mulf (divf v (broadcastTo S4096x7168
          (sqrt (addf (divf (shapeCast S4096x1 s shapeCasts_S4096_S4096x1) (broadcast S4096x1 (Scalar.ofBits .f32 0x45E00000#32)))
            (broadcast S4096x1 (Scalar.ofBits .f32 0x358637BD#32)))) broadcasts_S4096x1_S4096x7168))
          (broadcastTo S4096x7168 (shapeCast S1x7168 g shapeCasts_S1x7168_S1x7168) broadcasts_S1x7168_S4096x7168)) shapeCasts_S4096x7168_S4096x56x128 (ix3 i r l) =
      Ideal.div (v (ix2 i ⟨r * 128 + l, by omega⟩))
        (Ideal.sqrt (Ideal.div (s (ix1 i)) (Ideal.ofBits .f32 0x45E00000#32) + Ideal.ofBits .f32 0x358637BD#32))
        * g (ix2 0 ⟨r * 128 + l, by omega⟩) := by
  pointwise

/-- The normalised values, in runs of 128. -/
theorem pay3_apply (i : Fin 4096) (r : Fin 56) (l : Fin 128) :
    k0_pay3 (F := Ideal) x2 x3 x4 x5 x0 x1 x6 (ix3 i r l) =
      norm (rowOf x0 x1 x2 x3 i) (weightsOf x4 x5 x6 x7 x8) ⟨128 * r + l, by omega⟩ := by
  have h := pay2_apply x0 x1 x2 x3 x4 x5 x6 x7 x8 i
  unfold k0_pay3
  refine (norm_apply _ _ _ i r l).trans ?_
  rw [sumSq_apply]
  simp only [h, norm, den, weightsOf, Nat.mul_comm]

/-- Their magnitudes. -/
theorem pay4_apply (i : Fin 4096) (r : Fin 56) (l : Fin 128) :
    k0_pay4 (F := Ideal) x2 x3 x4 x5 x0 x1 x6 (ix3 i r l) =
      max (norm (rowOf x0 x1 x2 x3 i) (weightsOf x4 x5 x6 x7 x8) ⟨128 * r + l, by omega⟩)
        (-norm (rowOf x0 x1 x2 x3 i) (weightsOf x4 x5 x6 x7 x8) ⟨128 * r + l, by omega⟩) := by
  unfold k0_pay4
  rw [← pay3_apply]
  rfl

theorem dequant (c : FVec Ideal S4096x7168 .fp8e4m3) (s : FVec Ideal S4096x56 .f32) (i : Fin 4096) (j : Fin 7168) :
    mulf (extf .bf16 c bitsLt_fp8e4m3_bf16)
        (shapeCast S4096x7168 (broadcastTo S4096x56x128
          (shapeCast S4096x56x1 (truncf .bf16 s bitsLt_bf16_f32) shapeCasts_S4096x56_S4096x56x1)
          broadcasts_S4096x56x1_S4096x56x128) shapeCasts_S4096x56x128_S4096x7168) (ix2 i j) =
      c (ix2 i j) * s (ix2 i ⟨j / 128, by omega⟩) := by
  pointwise

/-- The dequantised codes. -/
theorem pay8_apply (v w : FVec Ideal S4096x56x128 .f32) (i : Fin 4096) (j : Fin 7168) :
    k0_pay8 (F := Ideal) v w (ix2 i j) =
      k0_pay6 (F := Ideal) v w (ix2 i j) * k0_pay5 (F := Ideal) w (ix2 i ⟨j / 128, by omega⟩) := by
  unfold k0_pay8
  exact dequant _ _ i j

theorem clip (v : FVec Ideal S4096x56x128 .f32) (s : FVec Ideal S4096x56 .f32) (i : Fin 4096) (j : Fin 7168) :
    shapeCast S4096x7168 (truncf .fp8e4m3
        (minimumf (broadcast S4096x56x128 (Scalar.ofBits .f32 0x43E00000#32))
          (maximumf (broadcast S4096x56x128 (Scalar.ofBits .f32 0xC3E00000#32))
            (divf v (broadcastTo S4096x56x128 (shapeCast S4096x56x1 s shapeCasts_S4096x56_S4096x56x1)
              broadcasts_S4096x56x1_S4096x56x128)))) bitsLt_fp8e4m3_f32) shapeCasts_S4096x56x128_S4096x7168 (ix2 i j) =
      min (Ideal.ofBits .f32 0x43E00000#32) (max (Ideal.ofBits .f32 0xC3E00000#32)
        (Ideal.div (v (ix3 i ⟨j / 128, by omega⟩ ⟨j % 128, by omega⟩)) (s (ix2 i ⟨j / 128, by omega⟩)))) := by
  pointwise

/-- The codes. -/
theorem pay6_apply (v w : FVec Ideal S4096x56x128 .f32) (i : Fin 4096) (j : Fin 7168) :
    k0_pay6 (F := Ideal) v w (ix2 i j) =
      min (Ideal.ofBits .f32 0x43E00000#32) (max (Ideal.ofBits .f32 0xC3E00000#32)
       (Ideal.div (v (ix3 i ⟨j / 128, by omega⟩ ⟨j % 128, by omega⟩))
         (k0_pay5 (F := Ideal) w (ix2 i ⟨j / 128, by omega⟩)))) := by
  unfold k0_pay6
  exact clip _ _ i j

theorem hbot : Ideal.ofBits .f32 0xFF800000#32 = ⊥ := by
  simp [Ideal.ofBits, Ideal.ieee, -EReal.coe_mul]

theorem htop : Ideal.ofBits .f32 0x7F800000#32 = ⊤ := by
  simp [Ideal.ofBits, Ideal.ieee, -EReal.coe_mul]

theorem max_apply (v : FVec Ideal S4096x56x128 .f32) (i : Fin 4096) (r : Fin 56) :
    multiReduction .maximumf [2] S4096x56 v 0xFF800000#32 reduces_S4096x56x128_S4096x56 (.inl rfl) rfl (ix2 i r) =
      Finset.univ.fold max (Ideal.ofBits .f32 0xFF800000#32) (fun l : Fin 128 => v (ix3 i r l)) := by
  pointwise

theorem times_apply (v : FVec Ideal S4096x56 .f32) (c : BitVec 32) (i : Fin 4096) (r : Fin 56) :
    mulf v (broadcast S4096x56 (Scalar.ofBits .f32 c)) (ix2 i r) = v (ix2 i r) * Ideal.ofBits .f32 c := rfl

theorem min_apply (v : FVec Ideal S4096x56x254 .f32) (i : Fin 4096) (r : Fin 56) :
    multiReduction .minimumf [2] S4096x56 v 0x7F800000#32 reduces_S4096x56x254_S4096x56 (.inl rfl) rfl (ix2 i r) =
      Finset.univ.fold min (Ideal.ofBits .f32 0x7F800000#32) (fun k : Fin 254 => v (ix3 i r k)) := by
  pointwise

theorem candidate_apply (a : FVec Ideal S4096x56 .f32) (e : FVec Ideal S1x1x254 .f32) (i : Fin 4096) (r : Fin 56) (k : Fin 254) :
    select (cmpf .ogt (broadcastTo S4096x56x254 e broadcasts_S1x1x254_S4096x56x254)
        (broadcastTo S4096x56x254 (shapeCast S4096x56x1 a shapeCasts_S4096x56_S4096x56x1) broadcasts_S4096x56x1_S4096x56x254))
      (broadcastTo S4096x56x254 (shapeCast S1x1x254 e shapeCasts_S1x1x254_S1x1x254) broadcasts_S1x1x254_S4096x56x254)
      (broadcast S4096x56x254 (Scalar.ofBits .f32 0x7F800000#32)) (ix3 i r k) =
    if a (ix2 i r) < e (ix3 0 0 k) then e (ix3 0 0 k) else Ideal.ofBits .f32 0x7F800000#32 := by
  pointwise

theorem oneIfZero_apply (a m : FVec Ideal S4096x56 .f32) (i : Fin 4096) (r : Fin 56) :
    select (cmpf .oeq a (broadcast S4096x56 (Scalar.ofBits .f32 0x00000000#32)))
      (broadcast S4096x56 (Scalar.ofBits .f32 0x3F800000#32)) m (ix2 i r) = if a (ix2 i r) = 0 then 1 else m (ix2 i r) := by
  pointwise

/-- The powers of two that the scale is picked from. -/
theorem powers_apply (k : Fin 254) :
    exp2 (subf (sitofp .f32 (iota .tc S1x1x254 32 [2] iota_S1x1x254_d2_w32))
        (broadcast S1x1x254 (Scalar.ofBits (F := Ideal) .f32 0x42FC0000#32))) (ix3 0 0 k) = p2 (k + 1) := by
  have h : Ideal.ofBits .f32 0x42FC0000#32 = ((126 : ℝ) : EReal) := by
    simp [Ideal.ofBits, Ideal.ieee, -EReal.coe_mul]; norm_num
  have h2 : (BitVec.ofNat 32 (k : ℕ)).toInt = (k : ℕ) := by
    have := k.2
    rw [BitVec.toInt_eq_toNat_of_lt] <;> rw [BitVec.toNat_ofNat] <;> omega
  pointwise
  show Ideal.exp2 ((((BitVec.ofNat 32 (k : ℕ)).toInt : ℝ) : EReal) - Ideal.ofBits .f32 0x42FC0000#32) = _
  rw [h, h2, ← EReal.coe_sub, Ideal.exp2_coe, p2]
  show ((((2 : ℝ) ^ (((k : ℕ) : ℤ) - (126 : ℝ)) : ℝ)) : EReal) = _
  rw [show (((((k : ℕ) : ℤ) : ℝ)) - 126 : ℝ) = ((((k : ℕ) + 1 : ℕ) : ℤ) - 127 : ℤ) by push_cast; ring, Real.rpow_intCast]

/-- The scales. -/
theorem pay5_apply (v : FVec Ideal S4096x56x128 .f32) (i : Fin 4096) (r : Fin 56) (a : EReal)
    (ha : Finset.univ.fold max ⊥ (fun l : Fin 128 => v (ix3 i r l)) * Ideal.ofBits .f32 0x3B124925#32 = a) (h : a < p2 253) :
    k0_pay5 (F := Ideal) v (ix2 i r) = scaleOf a := by
  have h0 := (times_apply _ 0x3B124925#32 i r).trans (congrArg (· * _) (max_apply v i r))
  simp only [hbot] at h0
  rw [ha] at h0
  unfold k0_pay5
  refine (oneIfZero_apply _ _ i r).trans ?_
  rw [h0, scaleOf, ← fold_min_eq h]
  refine congrArg _ ((min_apply _ i r).trans ?_)
  rw [htop]
  refine congrArg (fun f => Finset.univ.fold min ⊤ f) (funext fun k => (candidate_apply _ _ i r k).trans ?_)
  rw [powers_apply, h0, htop]

/-- The second product. -/
theorem pay1_apply (v : FVec Ideal S4096x7168 .bf16) (i : Fin 4096) (n : Fin 2112) :
    k0_pay1 (F := Ideal) v x7 x8 (ix2 i n) = ∑ k : Fin 7168, v (ix2 i k) * wqAt (weightsOf x4 x5 x6 x7 x8) k n := by
  pointwise [k0_pay1]
  rfl

end Cert.Proof.Reference
-- ==== Proof.ReferenceArrays.lean ====
/- The reference's four result arrays (`array1` to `array4`). It works on the whole arrays at once, so its blocks are the
   arrays themselves; `Reference` says what its operations compute. -/
module

public import proofs.«01_k».proof.Proof.Reference
public import proofs.«01_k».proof.Proof.Results
public import proofs.«01_k».proof.Proof.Gen.ReferenceIdeal.Value
public import Idealize.ShloMosaic.Lib.Pipeline.ValueKit

@[expose] public section

-- recurses once per coordinate of the long axes
set_option maxRecDepth 16384

noncomputable section

namespace Cert.Proof.ReferenceArrays

open Idealize.ShloMosaic Idealize.ShloMosaic.TcCoe Idealize.ShloMosaic.Tactic
open Cert.ReferenceIdeal Cert.ReferenceIdeal.Gen
open Cert.Proof.Reference

/-! ## The results of the body -/

section

variable (x0 : Vec Ideal S4096x7168 .bf16) (x1 : Vec Ideal S4096x7168 .f32) (x2 : Vec Ideal S4096x2048 .fp8e4m3)
  (x3 : Vec Ideal S4096x16 .f32) (x4 : Vec Ideal S2048x7168 .fp8e4m3) (x5 : Vec Ideal S16x56 .f32)
  (x6 : Vec Ideal S1x7168 .f32) (x7 : Vec Ideal S7168x2112 .fp8e4m3) (x8 : Vec Ideal S56x17 .f32)

/-- The residual sum. -/
theorem out1_apply (i : Fin 4096) (j : Fin 7168) : out0_9 x0 x1 x2 x3 x4 x5 x6 x7 x8 (ix2 i j) =
    Proof.x1 (rowOf x0 x1 x2 x3 i) (weightsOf x4 x5 x6 x7 x8) j := by
  unfold out0_9
  refine (congrFun (View.canon_cons_unit_lit _ _ _ (by decide)) _).trans ?_
  rw [View.ld_unit_lit _ x0 (by decide), View.ld_unit_lit _ x1 (by decide), View.ld_unit_lit _ x2 (by decide),
    View.ld_unit_lit _ x3 (by decide), View.ld_unit_lit _ x4 (by decide), View.ld_unit_lit _ x5 (by decide)]
  exact pay2_apply x0 x1 x2 x3 x4 x5 x6 x7 x8 i j

/-- The normalised values. -/
theorem pay9_apply (i : Fin 4096) (r : Fin 56) (l : Fin 128) : k0_pay9 x0 x1 x2 x3 x4 x5 x6 x7 x8 (ix3 i r l) =
    norm (rowOf x0 x1 x2 x3 i) (weightsOf x4 x5 x6 x7 x8) ⟨128 * r + l, by omega⟩ := by
  unfold k0_pay9
  rw [View.ld_unit_lit _ x0 (by decide), View.ld_unit_lit _ x1 (by decide), View.ld_unit_lit _ x2 (by decide),
    View.ld_unit_lit _ x3 (by decide), View.ld_unit_lit _ x4 (by decide), View.ld_unit_lit _ x5 (by decide),
    View.ld_unit_lit _ x6 (by decide)]
  exact pay3_apply x0 x1 x2 x3 x4 x5 x6 x7 x8 i r l

/-- Their magnitudes. -/
theorem pay10_apply (i : Fin 4096) (r : Fin 56) (l : Fin 128) : k0_pay10 x0 x1 x2 x3 x4 x5 x6 x7 x8 (ix3 i r l) =
    max (norm (rowOf x0 x1 x2 x3 i) (weightsOf x4 x5 x6 x7 x8) ⟨128 * r + l, by omega⟩)
      (-norm (rowOf x0 x1 x2 x3 i) (weightsOf x4 x5 x6 x7 x8) ⟨128 * r + l, by omega⟩) := by
  unfold k0_pay10
  rw [View.ld_unit_lit _ x0 (by decide), View.ld_unit_lit _ x1 (by decide), View.ld_unit_lit _ x2 (by decide),
    View.ld_unit_lit _ x3 (by decide), View.ld_unit_lit _ x4 (by decide), View.ld_unit_lit _ x5 (by decide),
    View.ld_unit_lit _ x6 (by decide)]
  exact pay4_apply x0 x1 x2 x3 x4 x5 x6 x7 x8 i r l

variable (hb : ∀ i r, amax (rowOf (m := 4096) x0 x1 x2 x3 i) (weightsOf x4 x5 x6 x7 x8) r < p2 253)
include hb

theorem scale_apply (i : Fin 4096) (r : Fin 56) : k0_pay5 (F := Ideal) (k0_pay10 x0 x1 x2 x3 x4 x5 x6 x7 x8) (ix2 i r) =
    scale (rowOf x0 x1 x2 x3 i) (weightsOf x4 x5 x6 x7 x8) r := by
  refine pay5_apply _ i r _ ?_ (hb i r)
  simp only [pay10_apply]
  rfl

theorem code_apply (i : Fin 4096) (j : Fin 7168) :
    k0_pay6 (F := Ideal) (k0_pay9 x0 x1 x2 x3 x4 x5 x6 x7 x8) (k0_pay10 x0 x1 x2 x3 x4 x5 x6 x7 x8) (ix2 i j) =
    code (rowOf x0 x1 x2 x3 i) (weightsOf x4 x5 x6 x7 x8) j := by
  rw [pay6_apply, scale_apply x0 x1 x2 x3 x4 x5 x6 x7 x8 hb, pay9_apply]
  have e : (⟨128 * (j.val / 128) + j.val % 128, by omega⟩ : Fin 7168) = j := by
    apply Fin.ext
    exact Nat.div_add_mod j.val 128
  exact congrArg (fun z => min (Ideal.ofBits .f32 0x43E00000#32) (max (Ideal.ofBits .f32 0xC3E00000#32)
    (Ideal.div (norm (rowOf x0 x1 x2 x3 i) (weightsOf x4 x5 x6 x7 x8) z) (scale (rowOf x0 x1 x2 x3 i)
      (weightsOf x4 x5 x6 x7 x8) ⟨j / 128, by omega⟩)))) e

/-- The product with the second weight. -/
theorem out2_apply (i : Fin 4096) (n : Fin 2112) : out0_10 x0 x1 x2 x3 x4 x5 x6 x7 x8 (ix2 i n) =
    qkv (rowOf x0 x1 x2 x3 i) (weightsOf x4 x5 x6 x7 x8) n := by
  unfold out0_10
  refine (congrFun (View.canon_cons_unit_lit _ _ _ (by decide)) _).trans ?_
  rw [View.ld_unit_lit _ x7 (by decide), View.ld_unit_lit _ x8 (by decide)]
  refine (pay1_apply x4 x5 x6 x7 x8 _ i n).trans (Finset.sum_congr rfl fun k _ => ?_)
  refine congrArg (fun z => z * wqAt (weightsOf x4 x5 x6 x7 x8) k n) ?_
  rw [pay8_apply, code_apply x0 x1 x2 x3 x4 x5 x6 x7 x8 hb, scale_apply x0 x1 x2 x3 x4 x5 x6 x7 x8 hb]
  rfl

/-- The codes. -/
theorem out3_apply (i : Fin 4096) (j : Fin 7168) : out0_11 x0 x1 x2 x3 x4 x5 x6 x7 x8 (ix2 i j) =
    code (rowOf x0 x1 x2 x3 i) (weightsOf x4 x5 x6 x7 x8) j := by
  unfold out0_11
  refine (congrFun (View.canon_cons_unit_lit _ _ _ (by decide)) _).trans ?_
  exact code_apply x0 x1 x2 x3 x4 x5 x6 x7 x8 hb i j

/-- The scales. -/
theorem out4_apply (i : Fin 4096) (r : Fin 56) : out0_12 x0 x1 x2 x3 x4 x5 x6 x7 x8 (ix2 i r) =
    scale (rowOf x0 x1 x2 x3 i) (weightsOf x4 x5 x6 x7 x8) r := by
  unfold out0_12
  refine (congrFun (View.canon_cons_unit_lit _ _ _ (by decide)) _).trans ?_
  exact scale_apply x0 x1 x2 x3 x4 x5 x6 x7 x8 hb i r

end

/-! ## The blocks -/

variable (m : (ℓ : Loc nD τ sig) → Buf (Elt Ideal) ℓ) (c : Dev nD)

/-- The reference's argument arrays. -/
def inputs : Inputs where
  x := m ((c : Thread nD τ).loc main_arg0)
  routed := m ((c : Thread nD τ).loc main_arg1)
  h := m ((c : Thread nD τ).loc main_arg2)
  hs := m ((c : Thread nD τ).loc main_arg3)
  w2 := m ((c : Thread nD τ).loc main_arg4)
  s2 := m ((c : Thread nD τ).loc main_arg5)
  gain := m ((c : Thread nD τ).loc main_arg6)
  wq := m ((c : Thread nD τ).loc main_arg7)
  sq := m ((c : Thread nD τ).loc main_arg8)

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![0, 0] := (by decide +kernel : ∀ t : Fin grid0.N, _)

theorem block0 (t : Fin cfg0.N) : (iblk m c 0 t : Mat 4096 7168) = m ((c : Thread nD τ).loc main_arg0) := by
  funext y
  rw [← V_main_arg0 m c]
  blk_simp [iblk]
  refine congrArg (V m c main_arg0) ?_
  blk_ext [index0 t]

theorem block1 (t : Fin cfg0.N) : (iblk m c 1 t : Mat 4096 7168) = m ((c : Thread nD τ).loc main_arg1) := by
  funext y
  rw [← V_main_arg1 m c]
  blk_simp [iblk]
  refine congrArg (V m c main_arg1) ?_
  blk_ext [index1 t]

theorem block2 (t : Fin cfg0.N) : (iblk m c 2 t : Mat 4096 2048) = m ((c : Thread nD τ).loc main_arg2) := by
  funext y
  rw [← V_main_arg2 m c]
  blk_simp [iblk]
  refine congrArg (V m c main_arg2) ?_
  blk_ext [index2 t]

theorem block3 (t : Fin cfg0.N) : (iblk m c 3 t : Mat 4096 16) = m ((c : Thread nD τ).loc main_arg3) := by
  funext y
  rw [← V_main_arg3 m c]
  blk_simp [iblk]
  refine congrArg (V m c main_arg3) ?_
  blk_ext [index3 t]

theorem block4 (t : Fin cfg0.N) : (iblk m c 4 t : Mat 2048 7168) = m ((c : Thread nD τ).loc main_arg4) := by
  funext y
  rw [← V_main_arg4 m c]
  blk_simp [iblk]
  refine congrArg (V m c main_arg4) ?_
  blk_ext [index4 t]

theorem block5 (t : Fin cfg0.N) : (iblk m c 5 t : Mat 16 56) = m ((c : Thread nD τ).loc main_arg5) := by
  funext y
  rw [← V_main_arg5 m c]
  blk_simp [iblk]
  refine congrArg (V m c main_arg5) ?_
  blk_ext [index5 t]

theorem block7 (t : Fin cfg0.N) : (iblk m c 7 t : Mat 7168 2112) = m ((c : Thread nD τ).loc main_arg7) := by
  funext y
  rw [← V_main_arg7 m c]
  blk_simp [iblk]
  refine congrArg (V m c main_arg7) ?_
  blk_ext [index7 t]

theorem block8 (t : Fin cfg0.N) : (iblk m c 8 t : Mat 56 17) = m ((c : Thread nD τ).loc main_arg8) := by
  funext y
  rw [← V_main_arg8 m c]
  blk_simp [iblk]
  refine congrArg (V m c main_arg8) ?_
  blk_ext [index8 t]

/-- The gain, which the program makes a matrix of one row before the grid. -/
theorem V_gain (y : S1x7168.Idx) : V m c main_v0 y = (inputs m c).gainRow y := by
  show broadcastInDim S1x7168 ![1] bcast_S7168_S1x7168_1 (m ((c : Thread nD τ).loc main_arg6)) y = _
  unfold Inputs.gainRow inputs
  pointwise

theorem block6 (t : Fin cfg0.N) : (iblk m c 6 t : Mat 1 7168) = (inputs m c).gainRow := by
  funext y
  rw [← V_gain m c]
  blk_simp [iblk]
  refine congrArg (V m c main_v0) ?_
  blk_ext [index6 t]

theorem rows (t : Fin cfg0.N) (i : Fin 4096) :
    rowOf (iblk m c 0 t : Mat 4096 7168) (iblk m c 1 t : Mat 4096 7168) (iblk m c 2 t : Mat 4096 2048)
      (iblk m c 3 t : Mat 4096 16) i = (inputs m c).row i := by
  rw [block0, block1, block2, block3]
  rfl

theorem weights (t : Fin cfg0.N) :
    weightsOf (iblk m c 4 t : Mat 2048 7168) (iblk m c 5 t : Mat 16 56) (iblk m c 6 t : Mat 1 7168)
      (iblk m c 7 t : Mat 7168 2112) (iblk m c 8 t : Mat 56 17) = (inputs m c).weights := by
  rw [block4, block5, block6, block7, block8]
  rfl

theorem below (hg : (inputs m c).GainFinite) (t : Fin cfg0.N) (i : Fin 4096) (r : Fin 56) :
    amax (rowOf (iblk m c 0 t : Mat 4096 7168) (iblk m c 1 t : Mat 4096 7168) (iblk m c 2 t : Mat 4096 2048)
        (iblk m c 3 t : Mat 4096 16) i)
      (weightsOf (iblk m c 4 t : Mat 2048 7168) (iblk m c 5 t : Mat 16 56) (iblk m c 6 t : Mat 1 7168)
        (iblk m c 7 t : Mat 7168 2112) (iblk m c 8 t : Mat 56 17)) r < p2 253 := by
  rw [rows, weights]
  exact (inputs m c).amax_lt hg i r

/-- An index of a two-dimensional array is its two coordinates. -/
theorem eta {r s : ℕ} (x : (⟨2, ![r, s]⟩ : Shape).Idx) : x = ix2 (x 0) (x 1) := by
  funext d
  match d with
  | 0 => rfl
  | 1 => rfl

/-! ## The arrays -/

theorem point1 (t : Fin cfg0.N) (i : Fin 4096) (j : Fin 7168) :
    out0_9 (iblk m c 0 t) (iblk m c 1 t) (iblk m c 2 t) (iblk m c 3 t) (iblk m c 4 t) (iblk m c 5 t) (iblk m c 6 t) (iblk m c 7 t) (iblk m c 8 t) (ix2 i j) = Proof.x1 ((inputs m c).row i) (inputs m c).weights j :=
  (out1_apply (iblk m c 0 t) (iblk m c 1 t) (iblk m c 2 t) (iblk m c 3 t) (iblk m c 4 t) (iblk m c 5 t) (iblk m c 6 t) (iblk m c 7 t) (iblk m c 8 t) i j).trans
    (congrArg₂ (fun R W => Proof.x1 R W j) (rows m c t i) (weights m c t))

theorem array1 : ((dats m 0 c).arrAt 9 cfg0.N : Mat 4096 7168) = (inputs m c).result1 := by
  refine (dats m 0 c).arrAt_eq_of_covers 9 _ (by decide +kernel) fun t hf y => ?_
  blk_simp
  rw [after0_9]
  refine (congrArg (out0_9 (iblk m c 0 t) (iblk m c 1 t) (iblk m c 2 t) (iblk m c 3 t) (iblk m c 4 t) (iblk m c 5 t) (iblk m c 6 t) (iblk m c 7 t) (iblk m c 8 t)) (eta y)).trans
    ((point1 m c t (y 0) (y 1)).trans ?_)
  refine congrArg₂ (fun i j => Proof.x1 ((inputs m c).row i) (inputs m c).weights j) ?_ ?_ <;>
    apply Fin.ext <;> blk_simp [index9 t]

theorem point2 (hg : (inputs m c).GainFinite) (t : Fin cfg0.N) (i : Fin 4096) (j : Fin 2112) :
    out0_10 (iblk m c 0 t) (iblk m c 1 t) (iblk m c 2 t) (iblk m c 3 t) (iblk m c 4 t) (iblk m c 5 t) (iblk m c 6 t) (iblk m c 7 t) (iblk m c 8 t) (ix2 i j) = qkv ((inputs m c).row i) (inputs m c).weights j :=
  (out2_apply (iblk m c 0 t) (iblk m c 1 t) (iblk m c 2 t) (iblk m c 3 t) (iblk m c 4 t) (iblk m c 5 t) (iblk m c 6 t) (iblk m c 7 t) (iblk m c 8 t) (below m c hg t) i j).trans
    (congrArg₂ (fun R W => qkv R W j) (rows m c t i) (weights m c t))

theorem array2 (hg : (inputs m c).GainFinite) : ((dats m 0 c).arrAt 10 cfg0.N : Mat 4096 2112) = (inputs m c).result2 := by
  refine (dats m 0 c).arrAt_eq_of_covers 10 _ (by decide +kernel) fun t hf y => ?_
  blk_simp
  rw [after0_10]
  refine (congrArg (out0_10 (iblk m c 0 t) (iblk m c 1 t) (iblk m c 2 t) (iblk m c 3 t) (iblk m c 4 t) (iblk m c 5 t) (iblk m c 6 t) (iblk m c 7 t) (iblk m c 8 t)) (eta y)).trans
    ((point2 m c hg t (y 0) (y 1)).trans ?_)
  refine congrArg₂ (fun i j => qkv ((inputs m c).row i) (inputs m c).weights j) ?_ ?_ <;>
    apply Fin.ext <;> blk_simp [index10 t]

theorem point3 (hg : (inputs m c).GainFinite) (t : Fin cfg0.N) (i : Fin 4096) (j : Fin 7168) :
    out0_11 (iblk m c 0 t) (iblk m c 1 t) (iblk m c 2 t) (iblk m c 3 t) (iblk m c 4 t) (iblk m c 5 t) (iblk m c 6 t) (iblk m c 7 t) (iblk m c 8 t) (ix2 i j) = code ((inputs m c).row i) (inputs m c).weights j :=
  (out3_apply (iblk m c 0 t) (iblk m c 1 t) (iblk m c 2 t) (iblk m c 3 t) (iblk m c 4 t) (iblk m c 5 t) (iblk m c 6 t) (iblk m c 7 t) (iblk m c 8 t) (below m c hg t) i j).trans
    (congrArg₂ (fun R W => code R W j) (rows m c t i) (weights m c t))

theorem array3 (hg : (inputs m c).GainFinite) : ((dats m 0 c).arrAt 11 cfg0.N : Mat 4096 7168) = (inputs m c).result3 := by
  refine (dats m 0 c).arrAt_eq_of_covers 11 _ (by decide +kernel) fun t hf y => ?_
  blk_simp
  rw [after0_11]
  refine (congrArg (out0_11 (iblk m c 0 t) (iblk m c 1 t) (iblk m c 2 t) (iblk m c 3 t) (iblk m c 4 t) (iblk m c 5 t) (iblk m c 6 t) (iblk m c 7 t) (iblk m c 8 t)) (eta y)).trans
    ((point3 m c hg t (y 0) (y 1)).trans ?_)
  refine congrArg₂ (fun i j => code ((inputs m c).row i) (inputs m c).weights j) ?_ ?_ <;>
    apply Fin.ext <;> blk_simp [index11 t]

theorem point4 (hg : (inputs m c).GainFinite) (t : Fin cfg0.N) (i : Fin 4096) (j : Fin 56) :
    out0_12 (iblk m c 0 t) (iblk m c 1 t) (iblk m c 2 t) (iblk m c 3 t) (iblk m c 4 t) (iblk m c 5 t) (iblk m c 6 t) (iblk m c 7 t) (iblk m c 8 t) (ix2 i j) = scale ((inputs m c).row i) (inputs m c).weights j :=
  (out4_apply (iblk m c 0 t) (iblk m c 1 t) (iblk m c 2 t) (iblk m c 3 t) (iblk m c 4 t) (iblk m c 5 t) (iblk m c 6 t) (iblk m c 7 t) (iblk m c 8 t) (below m c hg t) i j).trans
    (congrArg₂ (fun R W => scale R W j) (rows m c t i) (weights m c t))

theorem array4 (hg : (inputs m c).GainFinite) : ((dats m 0 c).arrAt 12 cfg0.N : Mat 4096 56) = (inputs m c).result4 := by
  refine (dats m 0 c).arrAt_eq_of_covers 12 _ (by decide +kernel) fun t hf y => ?_
  blk_simp
  rw [after0_12]
  refine (congrArg (out0_12 (iblk m c 0 t) (iblk m c 1 t) (iblk m c 2 t) (iblk m c 3 t) (iblk m c 4 t) (iblk m c 5 t) (iblk m c 6 t) (iblk m c 7 t) (iblk m c 8 t)) (eta y)).trans
    ((point4 m c hg t (y 0) (y 1)).trans ?_)
  refine congrArg₂ (fun i j => scale ((inputs m c).row i) (inputs m c).weights j) ?_ ?_ <;>
    apply Fin.ext <;> blk_simp [index12 t]

end Cert.Proof.ReferenceArrays
-- ==== Proof.Gain.lean ====
/- What the precondition says of the gain: none exceeds the largest finite number of its format. -/
module

public import proofs.«01_k».proof.Defs
public import proofs.«01_k».proof.Proof.Arrays

@[expose] public section

noncomputable section

namespace Cert.Proof.Gain

open Idealize.ShloMosaic Idealize.ShloMosaic.TcCoe

/-- The side condition of the precondition's one broadcast. -/
theorem facts : Cert.Pre_gain_is_finite.Facts where
  bcast_S_S7168 := by decide +kernel

/-- The precondition at an element: its gain's magnitude against the largest finite number. -/
theorem fn_apply [Cert.Pre_gain_is_finite.Facts] (x0 x1 x2 x3 x4 x5 x7 x8)
    (g : FVec Ideal Cert.Pre_gain_is_finite.S7168 .f32) (j : Fin 7168) :
    Cert.Pre_gain_is_finite.fn (F := Ideal) x0 x1 x2 x3 x4 x5 g x7 x8 (ix1 j) =
      if max (g (ix1 j)) (-g (ix1 j)) ≤ Ideal.ofBits .f32 0x7F7FFFFF#32 then 1#1 else 0#1 := by
  pointwise [Cert.Pre_gain_is_finite.fn]
  show BitVec.ofBool (decide (max (g (ix1 j)) (-g (ix1 j)) ≤ Ideal.ofBits .f32 0x7F7FFFFF#32)) = _
  by_cases h : max (g (ix1 j)) (-g (ix1 j)) ≤ Ideal.ofBits .f32 0x7F7FFFFF#32
  · rw [if_pos h, decide_eq_true h]; rfl
  · rw [if_neg h, decide_eq_false h]; rfl

/-- So it bounds every gain. -/
theorem finite [Cert.Pre_gain_is_finite.Facts]
    (m : (ℓ : Loc Cert.KernelIdeal.nD Cert.KernelIdeal.τ Cert.KernelIdeal.sig) → Buf (Elt Ideal) ℓ)
    (h : Pre_KernelIdeal_gain_is_finite m) (c : Dev Cert.KernelIdeal.nD) : (Arrays.inputs m c).GainFinite := by
  intro j
  have e := (fn_apply _ _ _ _ _ _ _ _ _ j).symm.trans (congrFun (h c) (ix1 j))
  by_contra hn
  exact absurd ((if_neg hn).symm.trans e) (by decide)

end Cert.Proof.Gain
-- ==== Proof.lean ====
module

public import proofs.«01_k».proof.Defs
public import proofs.«01_k».proof.Proof.Arrays
public import proofs.«01_k».proof.Proof.ReferenceArrays
public import proofs.«01_k».proof.Proof.Gain
public import proofs.«01_k».proof.Proof.Gen.Kernel.Frame
public import proofs.«01_k».proof.Proof.Gen.KernelIdeal.Value
public import proofs.«01_k».proof.Proof.Gen.ReferenceIdeal.Value

@[expose] public section

noncomputable section

namespace Cert.Proof

open Idealize.ShloMosaic Idealize.SL.Sem

/-- The kernel's results are the reference's, all four of them. -/
theorem algebraic : Cert.algebraic_KernelIdeal_ReferenceIdeal_pre_gain_is_finite
    (hKernelIdeal := Cert.KernelIdeal.Gen.facts) (hReferenceIdeal := Cert.ReferenceIdeal.Gen.facts)
    (hPre_gain_is_finite := Gain.facts) := by
  intro m g m' g' hpre hargs
  have hfin : ∀ c, (Arrays.inputs m c).GainFinite := @Gain.finite Gain.facts m hpre
  have hin : ∀ c, ReferenceArrays.inputs m' c = Arrays.inputs m c := by
    intro c
    obtain ⟨h0, h1, h2, h3, h4, h5, h6, h7, h8⟩ := hargs c
    simp only [ReferenceArrays.inputs, Arrays.inputs, Inputs.mk.injEq]
    exact ⟨h0, h1, h2, h3, h4, h5, h6, h7, h8⟩
  have hfin' : ∀ c, (ReferenceArrays.inputs m' c).GainFinite := fun c => (hin c).symm ▸ hfin c
  refine ⟨fun c => (Arrays.inputs m c).result1, fun c => (Arrays.inputs m c).result2,
    fun c => (Arrays.inputs m c).result3, fun c => (Arrays.inputs m c).result4, ?_, ?_⟩
  · refine (θ_run Cert.KernelIdeal.defs _ _).mono (fun r h c => ?_) (Cert.KernelIdeal.Value.run_blocks m g)
    obtain ⟨h1, h2, h3, h4, hk⟩ := h c
    exact ⟨h1.trans (Arrays.array1 m c), h2.trans (Arrays.array2 m c (hfin c)), h3.trans (Arrays.array3 m c (hfin c)),
      h4.trans (Arrays.array4 m c (hfin c)), hk⟩
  · refine (θ_run Cert.ReferenceIdeal.defs _ _).mono (fun r h c => ?_) (Cert.ReferenceIdeal.Value.run_blocks m' g')
    obtain ⟨h1, h2, h3, h4, hk⟩ := h c
    exact ⟨h1.trans ((ReferenceArrays.array1 m' c).trans (congrArg Inputs.result1 (hin c))),
      h2.trans ((ReferenceArrays.array2 m' c (hfin' c)).trans (congrArg Inputs.result2 (hin c))),
      h3.trans ((ReferenceArrays.array3 m' c (hfin' c)).trans (congrArg Inputs.result3 (hin c))),
      h4.trans ((ReferenceArrays.array4 m' c (hfin' c)).trans (congrArg Inputs.result4 (hin c))), hk⟩

theorem claim : Cert.Claim :=
  ⟨Cert.Kernel.Gen.facts, Cert.KernelIdeal.Gen.facts, Cert.ReferenceIdeal.Gen.facts, Gain.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, trivial, algebraic⟩

end Cert.Proof

end
